-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates_KernelIdeal [hPre_finite_gates_KernelIdeal : Cert.Pre_finite_gates_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates_ReferenceIdeal [hPre_finite_gates_ReferenceIdeal : Cert.Pre_finite_gates_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_gates_KernelIdeal [hKernelIdeal : Cert.KernelIdeal.Facts] [hPre_finite_gates_KernelIdeal : Cert.Pre_finite_gates_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gates_ReferenceIdeal [hReferenceIdeal : Cert.ReferenceIdeal.Facts] [hPre_finite_gates_ReferenceIdeal : Cert.Pre_finite_gates_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_gates_KernelIdeal [hKernelIdeal : Cert.KernelIdeal.Facts] [hReferenceIdeal : Cert.ReferenceIdeal.Facts] [hPre_finite_gates_KernelIdeal : Cert.Pre_finite_gates_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4]⟩ ⟨2, ![1024, 8]⟩ (Layout.meshBlock [2, 2, 4] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 2, 4] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 1024]⟩ ⟨2, ![1024, 1024]⟩ (Layout.meshBlock [2, 2, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_gates_KernelIdeal : Cert.Pre_finite_gates_KernelIdeal.Facts) (hPre_finite_gates_ReferenceIdeal : Cert.Pre_finite_gates_ReferenceIdeal.Facts),
    quiescent_Kernel (hKernel := hKernel)
    ∧ quiescent_KernelIdeal (hKernelIdeal := hKernelIdeal)
    ∧ quiescent_KernelIdeal_pre_finite_gates_KernelIdeal (hKernelIdeal := hKernelIdeal) (hPre_finite_gates_KernelIdeal := hPre_finite_gates_KernelIdeal)
    ∧ quiescent_ReferenceIdeal (hReferenceIdeal := hReferenceIdeal)
    ∧ quiescent_ReferenceIdeal_pre_finite_gates_ReferenceIdeal (hReferenceIdeal := hReferenceIdeal) (hPre_finite_gates_ReferenceIdeal := hPre_finite_gates_ReferenceIdeal)
    ∧ preserves_Kernel_KernelIdeal
    ∧ algebraic_KernelIdeal_ReferenceIdeal_pre_finite_gates_KernelIdeal (hKernelIdeal := hKernelIdeal) (hReferenceIdeal := hReferenceIdeal) (hPre_finite_gates_KernelIdeal := hPre_finite_gates_KernelIdeal)
-- ==== Pre_finite_gates_KernelIdeal.lean ====
abbrev S512x1024 : Shape := ⟨2, ![512, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x4 : S_.BroadcastsInDim S1024x4 (![] : Fin 0 → Fin S1024x4.rank)
  reducesTo_S1024x4_S_d0_1 : S1024x4.ReducesTo [0, 1] S_

variable [Facts]

def fn {F : FTy → Type} [FloatOps F] (main_arg0 : FVec F S512x1024 .f32) (main_arg1 : FVec F S1024x4 .f32) (main_arg2 : FVec F S4x1024x2048 .f32) (main_arg3 : FVec F S4x2048x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x4 .f32 := Host.absf main_arg1
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  main_v8
-- ==== Pre_finite_gates_ReferenceIdeal.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S1024x1024 .f32) (main_arg1 : FVec F S1024x8 .f32) (main_arg2 : FVec F S8x1024x2048 .f32) (main_arg3 : FVec F S8x2048x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S512x1024 : Shape := ⟨2, ![512, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S2x512x1024 : Shape := ⟨3, ![2, 512, 1024]⟩
abbrev S2x512x8 : Shape := ⟨3, ![2, 512, 8]⟩
abbrev S2x1024x1024 : Shape := ⟨3, ![2, 1024, 1024]⟩
abbrev S4 : Shape := ⟨1, ![4]⟩
abbrev S2x2 : Shape := ⟨2, ![2, 2]⟩
abbrev S_ : Shape := ⟨0, ![]⟩
abbrev S1 : Shape := ⟨1, ![1]⟩
abbrev S1x512x1024 : Shape := ⟨3, ![1, 512, 1024]⟩
abbrev S512x4 : Shape := ⟨2, ![512, 4]⟩
abbrev S512x8 : Shape := ⟨2, ![512, 8]⟩
abbrev S512 : Shape := ⟨1, ![512]⟩
abbrev S512x1 : Shape := ⟨2, ![512, 1]⟩
abbrev S1x512x8 : Shape := ⟨3, ![1, 512, 8]⟩
abbrev S1024x1024 : Shape := ⟨2, ![1024, 1024]⟩
abbrev S1024x8 : Shape := ⟨2, ![1024, 8]⟩
abbrev S1x1 : Shape := ⟨2, ![1, 1]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 5
  | .vmem => 11
  | .smem => 0
  | _ => 0

abbrev bufTy : (tb : Table) → Fin (tcTables nBuf tb) → BufTy
  | .hbm, ⟨0, _⟩ => ⟨S512x1024, .f32⟩
  | .hbm, ⟨1, _⟩ => ⟨S1024x4, .f32⟩
  | .hbm, ⟨2, _⟩ => ⟨S4x1024x2048, .f32⟩
  | .hbm, ⟨3, _⟩ => ⟨S4x2048x1024, .f32⟩
  | .hbm, ⟨4, _⟩ => ⟨S512x1024, .f32⟩
  | .local _ .vmem, ⟨0, _⟩ => ⟨S512x1024, .f32⟩
  | .local _ .vmem, ⟨1, _⟩ => ⟨S1024x4, .f32⟩
  | .local _ .vmem, ⟨2, _⟩ => ⟨S512x1024, .f32⟩
  | .local _ .vmem, ⟨3, _⟩ => ⟨S2x512x1024, .bf16⟩
  | .local _ .vmem, ⟨4, _⟩ => ⟨S1024x4, .f32⟩
  | .local _ .vmem, ⟨5, _⟩ => ⟨S2x512x8, .f32⟩
  | .local _ .vmem, ⟨6, _⟩ => ⟨S2x512x1024, .f32⟩
  | .local _ .vmem, ⟨7, _⟩ => ⟨S512x1024, .bf16⟩
  | .local _ .vmem, ⟨8, _⟩ => ⟨S512x1024, .bf16⟩
  | .local _ .vmem, ⟨9, _⟩ => ⟨S2x1024x1024, .f32⟩
  | .local _ .vmem, ⟨10, _⟩ => ⟨S2x1024x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_11 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_10 : BitVec 32 := 8#32
  let v17 : BitVec 32 := Scalar.muli v9 c8_i32_10
  let v18 : BitVec 32 := Scalar.addi c0_i32_11 v17
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_12 : BitVec 32 := 4#32
  let v19 : BitVec 32 := Scalar.muli v5 c4_i32_12
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v21 : BitVec 32 := Scalar.muli v8 c1_i32_13
  let v22 : BitVec 32 := Scalar.addi v20 v21
  v22.toNat
def k0_off1 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : Index := Scalar.indexCast v2
  let c0_15 : Index := 0#32
  let c0_16 : Index := 0#32
  ![v31.toNat, 0, 0]
def k0_off2 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_23 : BitVec 32 := 0#32
  let c0_i32_24 : BitVec 32 := 0#32
  ![v2.toNat, 0, 0]
def k0_dev3 (d0 : Dev nD) : Nat :=
  let c0_i32_20 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_19 : BitVec 32 := 8#32
  let v35 : BitVec 32 := Scalar.muli v9 c8_i32_19
  let v36 : BitVec 32 := Scalar.addi c0_i32_20 v35
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_21 : BitVec 32 := 4#32
  let v37 : BitVec 32 := Scalar.muli v5 c4_i32_21
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v39 : BitVec 32 := Scalar.muli v8 c1_i32_22
  let v40 : BitVec 32 := Scalar.addi v38 v39
  v40.toNat
def k0_off3 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v112 : Index := Scalar.indexCast v2
  let c0_56 : Index := 0#32
  let c0_57 : Index := 0#32
  ![v112.toNat, 0, 0]
def k0_off4 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_64 : BitVec 32 := 0#32
  let c0_i32_65 : BitVec 32 := 0#32
  ![v2.toNat, 0, 0]
def k0_dev4 (d0 : Dev nD) : Nat :=
  let c0_i32_61 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_60 : BitVec 32 := 8#32
  let v116 : BitVec 32 := Scalar.muli v9 c8_i32_60
  let v117 : BitVec 32 := Scalar.addi c0_i32_61 v116
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_62 : BitVec 32 := 4#32
  let v118 : BitVec 32 := Scalar.muli v5 c4_i32_62
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v120 : BitVec 32 := Scalar.muli v8 c1_i32_63
  let v121 : BitVec 32 := Scalar.addi v119 v120
  v121.toNat
def k0_dev5 (d0 : Dev nD) : Nat :=
  let c0_i32_490 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_489 : BitVec 32 := 8#32
  let v564 : BitVec 32 := Scalar.muli v9 c8_i32_489
  let v565 : BitVec 32 := Scalar.addi c0_i32_490 v564
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_491 : BitVec 32 := 4#32
  let v566 : BitVec 32 := Scalar.muli v5 c4_i32_491
  let v567 : BitVec 32 := Scalar.addi v565 v566
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_492 : BitVec 32 := 1#32
  let v568 : BitVec 32 := Scalar.muli v8 c1_i32_492
  let v569 : BitVec 32 := Scalar.addi v567 v568
  v569.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S1024x2 : Shape := ⟨2, ![1024, 2]⟩
abbrev S_ : Shape := ⟨0, ![]⟩
abbrev S1024 : Shape := ⟨1, ![1024]⟩
abbrev S1024x1 : Shape := ⟨2, ![1024, 1]⟩
abbrev S8x1024x1024 : Shape := ⟨3, ![8, 1024, 1024]⟩
abbrev S8 : Shape := ⟨1, ![8]⟩
abbrev S8x1x1 : Shape := ⟨3, ![8, 1, 1]⟩
abbrev S1x1024x1 : Shape := ⟨3, ![1, 1024, 1]⟩
abbrev S8x1024x1 : Shape := ⟨3, ![8, 1024, 1]⟩

abbrev nBuf : Space → Nat
  | .hbm => 62
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x8, .f32⟩
  | .hbm, ⟨2, _⟩ => ⟨S8x1024x2048, .f32⟩
  | .hbm, ⟨3, _⟩ => ⟨S8x2048x1024, .f32⟩
  | .hbm, ⟨4, _⟩ => ⟨S1024x8, .f32⟩
  | .hbm, ⟨5, _⟩ => ⟨S1024x2, .f32⟩
  | .hbm, ⟨6, _⟩ => ⟨S1024x2, .i32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x2, .f32⟩
  | .hbm, ⟨11, _⟩ => ⟨S1024x2, .f32⟩
  | .hbm, ⟨12, _⟩ => ⟨S1024x2, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x2, .f32⟩
  | .hbm, ⟨17, _⟩ => ⟨S1024x2, .f32⟩
  | .hbm, ⟨18, _⟩ => ⟨S8x2048x1024, .f32⟩
  | .hbm, ⟨19, _⟩ => ⟨S8x1024x2048, .f32⟩
  | .hbm, ⟨20, _⟩ => ⟨S_, .f32⟩
  | .hbm, ⟨21, _⟩ => ⟨S8x1024x2048, .f32⟩
  | .hbm, ⟨22, _⟩ => ⟨S8x1024x2048, .f32⟩
  | .hbm, ⟨23, _⟩ => ⟨S8x1024x1024, .f32⟩
  | .hbm, ⟨24, _⟩ => ⟨S8, .i32⟩
  | .hbm, ⟨25, _⟩ => ⟨S8x1x1, .i32⟩
  | .hbm, ⟨26, _⟩ => ⟨S_, .f32⟩
  | .hbm, ⟨27, _⟩ => ⟨S1024x1024, .f32⟩
  | .hbm, ⟨28, _⟩ => ⟨S1024x1, .i32⟩
  | .hbm, ⟨29, _⟩ => ⟨S1x1024x1, .i32⟩
  | .hbm, ⟨30, _⟩ => ⟨S8x1024x1, .i32⟩
  | .hbm, ⟨31, _⟩ => ⟨S8x1024x1, .i32⟩
  | .hbm, ⟨32, _⟩ => ⟨S8x1024x1, .i1⟩
  | .hbm, ⟨33, _⟩ => ⟨S1024x1, .f32⟩
  | .hbm, ⟨34, _⟩ => ⟨S1x1024x1, .f32⟩
  | .hbm, ⟨35, _⟩ => ⟨S8x1024x1024, .f32⟩
  | .hbm, ⟨36, _⟩ => ⟨S8x1024x1024, .f32⟩
  | .hbm, ⟨37, _⟩ => ⟨S_, .f32⟩
  | .hbm, ⟨38, _⟩ => ⟨S_, .f32⟩
  | .hbm, ⟨39, _⟩ => ⟨S8x1024x1024, .i1⟩
  | .hbm, ⟨40, _⟩ => ⟨S8x1024x1024, .f32⟩
  | .hbm, ⟨41, _⟩ => ⟨S8x1024x1024, .f32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S1024x1, .i32⟩
  | .hbm, ⟨46, _⟩ => ⟨S1x1024x1, .i32⟩
  | .hbm, ⟨47, _⟩ => ⟨S8x1024x1, .i32⟩
  | .hbm, ⟨48, _⟩ => ⟨S8x1024x1, .i32⟩
  | .hbm, ⟨49, _⟩ => ⟨S8x1024x1, .i1⟩
  | .hbm, ⟨50, _⟩ => ⟨S1024x1, .f32⟩
  | .hbm, ⟨51, _⟩ => ⟨S1x1024x1, .f32⟩
  | .hbm, ⟨52, _⟩ => ⟨S8x1024x1024, .f32⟩
  | .hbm, ⟨53, _⟩ => ⟨S8x1024x1024, .f32⟩
  | .hbm, ⟨54, _⟩ => ⟨S_, .f32⟩
  | .hbm, ⟨55, _⟩ => ⟨S_, .f32⟩
  | .hbm, ⟨56, _⟩ => ⟨S8x1024x1024, .i1⟩
  | .hbm, ⟨57, _⟩ => ⟨S8x1024x1024, .f32⟩
  | .hbm, ⟨58, _⟩ => ⟨S8x1024x1024, .f32⟩
  | .hbm, ⟨59, _⟩ => ⟨S_, .f32⟩
  | .hbm, ⟨60, _⟩ => ⟨S1024x1024, .f32⟩
  | .hbm, ⟨61, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Proof.Protocol.lean ====
/-
# `Protocol`: the two-device exchange of the kernel as a schedule of rounds

Device `c` of the mesh `(x, y, z) = (2, 2, 4)` exchanges with one partner only, the device whose first coordinate is the
other one: `peer c`. One handshake on the runtime's barrier semaphore, then four transfers, each to the same place of the
partner: the router block, the token block (one slot of a two-slot buffer), the token weights (one slot) and the partial
result. This module holds the cells, what the buffers contain, the schedule of payloads, what a device owes and the levels.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

set_option maxRecDepth 16384

noncomputable section

namespace Cert.ExchangeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The resource algebra: the pipeline's rounds, the exchange's rounds, and the counters of the local transfers -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the exchange's rounds lie in the algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partner -/

set_option backward.proofsInPublic true in
/-- The device with the other first coordinate. -/
def peer (c : Dev nD) : Dev nD := ⟨(c.val + 8) % 16, Nat.mod_lt _ (by decide)⟩

theorem peer_peer (c : Dev nD) : peer (peer c) = c := by revert c; decide
theorem peer_ne (c : Dev nD) : peer c ≠ c := by revert c; decide
/-- The five device chains of the kernel all name the partner. -/
theorem dev1_eq (c : Dev nD) : (⟨k0_dev1 c, k0_dev1_lt c⟩ : Dev nD) = peer c := by
  apply Fin.ext; show k0_dev1 c = _; rw [k0_dev1_eq]; revert c; decide
theorem dev2_eq (c : Dev nD) : (⟨k0_dev2 c, k0_dev2_lt c⟩ : Dev nD) = peer c := by
  apply Fin.ext; show k0_dev2 c = _; rw [k0_dev2_eq]; revert c; decide
theorem dev3_eq (c : Dev nD) : (⟨k0_dev3 c, k0_dev3_lt c⟩ : Dev nD) = peer c := by
  apply Fin.ext; show k0_dev3 c = _; rw [k0_dev3_eq]; revert c; decide
theorem dev4_eq (c : Dev nD) : (⟨k0_dev4 c, k0_dev4_lt c⟩ : Dev nD) = peer c := by
  apply Fin.ext; show k0_dev4 c = _; rw [k0_dev4_eq]; revert c; decide
theorem dev5_eq (c : Dev nD) : (⟨k0_dev5 c, k0_dev5_lt c⟩ : Dev nD) = peer c := by
  apply Fin.ext; show k0_dev5 c = _; rw [k0_dev5_eq]; revert c; decide

def swap : Dev nD ≃ Dev nD := ⟨peer, peer, peer_peer, peer_peer⟩

/-! ## The memrefs and cells -/

abbrev xM : Memref sig .tc .vmem S512x1024 .f32 := Memref.whole cc0_stg0_0
abbrev gM : Memref sig .tc .vmem S1024x4 .f32 := Memref.whole cc0_stg1_0
abbrev oM : Memref sig .tc .vmem S512x1024 .f32 := Memref.whole cc0_stg2_0
abbrev xaM : Memref sig .tc .vmem S2x512x1024 .bf16 := Memref.whole cc0_scratch0
abbrev rM : Memref sig .tc .vmem S1024x4 .f32 := Memref.whole cc0_scratch1
abbrev wtM : Memref sig .tc .vmem S2x512x8 .f32 := Memref.whole cc0_scratch2
abbrev paM : Memref sig .tc .vmem S2x512x1024 .f32 := Memref.whole cc0_scratch3
abbrev sM : Memref sig .tc .vmem S512x1024 .bf16 := Memref.whole cc0_scratch4
abbrev pM : Memref sig .tc .vmem S512x1024 .bf16 := Memref.whole cc0_scratch5

/-- The slot of the token buffer that device `s` fills. -/
abbrev xSlot (s : Dev nD) : Memref sig .tc .vmem S512x1024 .bf16 :=
  (xaM.slice (Rect.unit (s := S2x512x1024) (k0_off2 s) S1x512x1024.size (k0_off2_inb s)) (fun _ => rfl)).squeeze S512x1024 squeezes_S1x512x1024_S512x1024
/-- The slot of the weight buffer that device `s` fills. -/
abbrev wSlot (s : Dev nD) : Memref sig .tc .vmem S512x8 .f32 :=
  (wtM.slice (Rect.unit (s := S2x512x8) (k0_off4 s) S1x512x8.size (k0_off4_inb s)) (fun _ => rfl)).squeeze S512x8 squeezes_S1x512x8_S512x8

/-- The runtime's barrier semaphore. -/
abbrev barS : Sem sig := (SemArray.scalar (sig.barrier 0 rfl) : Sems sig S_).sem
abbrev send0 : DmaSems sig S_ := (cc0_scratch8.slice (Rect.unit (s := S4) ![0] S1.size inb_S4_S1_0)).squeeze S_ squeezes_S1_S_
abbrev send1 : DmaSems sig S_ := (cc0_scratch8.slice (Rect.unit (s := S4) ![1] S1.size inb_S4_S1_1)).squeeze S_ squeezes_S1_S_
abbrev send2 : DmaSems sig S_ := (cc0_scratch8.slice (Rect.unit (s := S4) ![2] S1.size inb_S4_S1_2)).squeeze S_ squeezes_S1_S_
abbrev send3 : DmaSems sig S_ := (cc0_scratch8.slice (Rect.unit (s := S4) ![3] S1.size inb_S4_S1_3)).squeeze S_ squeezes_S1_S_
abbrev recv0 : DmaSems sig S_ := (cc0_scratch9.slice (Rect.unit (s := S4) ![0] S1.size inb_S4_S1_0)).squeeze S_ squeezes_S1_S_
abbrev recv1 : DmaSems sig S_ := (cc0_scratch9.slice (Rect.unit (s := S4) ![1] S1.size inb_S4_S1_1)).squeeze S_ squeezes_S1_S_
abbrev recv2 : DmaSems sig S_ := (cc0_scratch9.slice (Rect.unit (s := S4) ![2] S1.size inb_S4_S1_2)).squeeze S_ squeezes_S1_S_
abbrev recv3 : DmaSems sig S_ := (cc0_scratch9.slice (Rect.unit (s := S4) ![3] S1.size inb_S4_S1_3)).squeeze S_ squeezes_S1_S_

/-- The exchange's nine cells of a device: barrier, the four send cells, the four receive cells. -/
abbrev csem : Fin 9 → SemLoc sig := fun
  | 0 => .reg barS | 1 => .dma send0.sem | 2 => .dma send1.sem | 3 => .dma send2.sem | 4 => .dma send3.sem
  | 5 => .dma recv0.sem | 6 => .dma recv1.sem | 7 => .dma recv2.sem | 8 => .dma recv3.sem
abbrev kcell (ck : Dev nD × Fin 9) : GSem nD τ sig := ((ck.1 : Thread nD τ), csem ck.2)

/-- Which of the nine a semaphore is, if any. -/
def kind : SemLoc sig → Option (Fin 9)
  | .reg _ => some 0
  | .dma q => if h : 3 ≤ q.val ∧ q.val ≤ 10 then some ⟨q.val - 2, by omega⟩ else none

theorem kind_csem (k : Fin 9) : kind (csem k) = some k := by revert k; decide

theorem csem_injective : Function.Injective csem := fun a b h => by
  have := congrArg kind h; rw [kind_csem, kind_csem] at this; exact Option.some.inj this

/-- The credit of each cell's one round. -/
def amt : Fin 9 → ℕ := fun
  | 0 => 1
  | 1 => rM.view.dmaCredit | 2 => (xSlot 0).view.dmaCredit | 3 => (wSlot 0).view.dmaCredit | 4 => pM.view.dmaCredit
  | 5 => rM.view.dmaCredit | 6 => (xSlot 0).view.dmaCredit | 7 => (wSlot 0).view.dmaCredit | 8 => pM.view.dmaCredit

theorem amt_pos (k : Fin 9) : 0 < amt k := by
  match k with
  | 0 => exact Nat.one_pos
  | 1 => exact View.dmaCredit_pos _ (by decide)
  | 2 => exact View.dmaCredit_pos _ (by decide)
  | 3 => exact View.dmaCredit_pos _ (by decide)
  | 4 => exact View.dmaCredit_pos _ (by decide)
  | 5 => exact View.dmaCredit_pos _ (by decide)
  | 6 => exact View.dmaCredit_pos _ (by decide)
  | 7 => exact View.dmaCredit_pos _ (by decide)
  | 8 => exact View.dmaCredit_pos _ (by decide)

/-! ## Contents -/

/-- The token block staged on device `c`. -/
def xstg (c : Dev nD) : (cc0_stg0_0 : Ref sig .tc).ty.Contents (Elt F) :=
  (win0_0.blk (0 : Fin 1)).view.read (Elt F) ((s₀ m ρ).mem ((c : Thread nD τ).loc main_arg0))
/-- The router block staged on device `c`. -/
def rstg (c : Dev nD) : (cc0_stg1_0 : Ref sig .tc).ty.Contents (Elt F) :=
  (win0_1.blk (0 : Fin 1)).view.read (Elt F) ((s₀ m ρ).mem ((c : Thread nD τ).loc main_arg1))

/-- The device's first mesh coordinate, as the kernel computes it. -/
def v2w (c : Dev nD) : BitVec 32 := Scalar.remsi (Scalar.divsi (Dev.word c) 8#32) 2#32

/-- The device of `c`'s pair with first coordinate `s`. -/
def pairDev (c : Dev nD) (s : ℕ) : Dev nD := ⟨(8 * s + c.val % 8) % 16, Nat.mod_lt _ (by decide)⟩
theorem pairDev_self (c : Dev nD) : pairDev c (c.val / 8) = c := by revert c; decide
theorem pairDev_peer (c : Dev nD) (s : ℕ) : pairDev (peer c) s = pairDev c s := by
  apply Fin.ext; show (8 * s + (c.val + 8) % 16 % 8) % 16 = (8 * s + c.val % 8) % 16
  congr 2; omega
theorem pairDev_peer_self (c : Dev nD) : pairDev c ((peer c).val / 8) = peer c := by revert c; decide

/-- The token slot device `d` sends: its block, narrowed. -/
def xpay (d : Dev nD) : FVec F S1x512x1024 .bf16 := k0_pay3 (k0_pay2 (xstg m ρ d))
/-- The weight slot device `d` sends: its tokens' weights over the eight experts of the pair. -/
def wpay (d : Dev nD) : FVec F S1x512x8 .f32 :=
  k0_pay15 (k0_pay11 (v2w d) (k0_pay4 (xstg m ρ d)) (k0_pay5 (xstg m ρ d) (rstg m ρ d)) (rstg m ρ (peer d)))
    (k0_pay13 (v2w d) (k0_pay4 (xstg m ρ d)) (k0_pay5 (xstg m ρ d) (rstg m ρ d)) (rstg m ρ (peer d)))
    (Scalar.ofBits .f32 0x00000000#32)
    (k0_pay14 (v2w d) (k0_pay4 (xstg m ρ d)) (k0_pay5 (xstg m ρ d) (rstg m ρ d)) (rstg m ρ (peer d)))

/-- The token buffer of device `c` once both slots are in: slot `s` is the pair's device `s`'s block. -/
def xallC (c : Dev nD) : (cc0_scratch0 : Ref sig .tc).ty.Contents (Elt F) :=
  fun i => xpay m ρ (pairDev c (i 0).val) (ix3 (0 : Fin 1) (i 1) (i 2))
/-- The weight buffer of device `c` once both slots are in. -/
def wtC (c : Dev nD) : (cc0_scratch2 : Ref sig .tc).ty.Contents (Elt F) :=
  fun i => wpay m ρ (pairDev c (i 0).val) (ix3 (0 : Fin 1) (i 1) (i 2))

theorem xallC_peer (c : Dev nD) : xallC m ρ (peer c) = xallC m ρ c := by funext i; unfold xallC; rw [pairDev_peer]
theorem wtC_peer (c : Dev nD) : wtC m ρ (peer c) = wtC m ρ c := by funext i; unfold wtC; rw [pairDev_peer]

/-- The tokens of the pair, both slots in order. -/
def x2 (c : Dev nD) : FVec F S1024x1024 .bf16 := k0_pay18 (k0_pay16 (xpay m ρ (pairDev c 0))) (k0_pay17 (xpay m ρ (pairDev c 1)))
/-- The weights of the pair's tokens. -/
def w8 (c : Dev nD) : FVec F S1024x8 .f32 := k0_pay19 (wpay m ρ (pairDev c 0)) (wpay m ρ (pairDev c 1))
def iota8 : IVec S1024x8 32 := iota .tc S1024x8 32 [1] iota_S1024x8_d1_w32

set_option backward.proofsInPublic true in
/-- Chunk `k` of the first weights: expert `k/2`, the half `k%2` of the hidden columns. -/
def w1c (c : Dev nD) (k : ℕ) : Vec F S1x1024x1024 .f32 :=
  fun j => m ((c : Thread nD τ).loc main_arg2)
    (ix3 (⟨k / 2 % 4, Nat.mod_lt _ (by decide)⟩ : Fin 4) (⟨(j 1).val, (j 1).isLt⟩ : Fin 1024)
      (⟨1024 * (k % 2) + (j 2).val, by have : (j 2).val < 1024 := (j 2).isLt; omega⟩ : Fin 2048))
set_option backward.proofsInPublic true in
/-- Chunk `k` of the second weights: expert `k/2`, the half `k%2` of the hidden rows. -/
def w2c (c : Dev nD) (k : ℕ) : Vec F S1x1024x1024 .f32 :=
  fun j => m ((c : Thread nD τ).loc main_arg3)
    (ix3 (⟨k / 2 % 4, Nat.mod_lt _ (by decide)⟩ : Fin 4)
      (⟨1024 * (k % 2) + (j 1).val, by have : (j 1).val < 1024 := (j 1).isLt; omega⟩ : Fin 2048) (⟨(j 2).val, (j 2).isLt⟩ : Fin 1024))

/-- The accumulator before chunk `k`. -/
def accC (c : Dev nD) : ℕ → FVec F S1024x1024 .f32
  | 0 => k0_pay20
  | k + 1 => k0_pay23 (x2 m ρ c) (w8 m ρ c) iota8 (accC c k) (Scalar.addi (Scalar.muli (v2w c) 4#32) (BitVec.ofNat 32 (k / 2))) (w1c m c k) (w2c m c k)

/-- The two halves of the finished accumulator. -/
def lowC (c : Dev nD) : FVec F S1x512x1024 .f32 :=
  k0_pay36 (extractStridedSlice S512x1024 ![0, 0] (accC m ρ c 8) slices_S1024x1024_o0_0_S512x1024)
def highC (c : Dev nD) : FVec F S1x512x1024 .f32 := k0_pay37 (accC m ρ c 8)

/-- The partial result device `c` sends: the partner's half, narrowed. -/
def psend (c : Dev nD) : (cc0_scratch4 : Ref sig .tc).ty.Contents (Elt F) := k0_pay38 (v2w c) (highC m ρ c) (lowC m ρ c)

/-- The kernel's result on device `c`. -/
def outAt (c : Dev nD) : (cc0_stg2_0 : Ref sig .tc).ty.Contents (Elt F) := k0_pay1 (v2w c) (lowC m ρ c) (highC m ρ c) (psend m ρ (peer c))

/-! ## Points-to facts of the exchanged buffers -/

def gPts (c : Dev nD) (f : Buf (Elt F) (gM.view.loc (c : Thread nD τ))) : sProp 𝕄 := gM.view.loc (c : Thread nD τ) ↦[gM.view.set]{fullShare} f
def rPts (c : Dev nD) (f : Buf (Elt F) (rM.view.loc (c : Thread nD τ))) : sProp 𝕄 := rM.view.loc (c : Thread nD τ) ↦[rM.view.set]{fullShare} f
/-- Slot `s` of device `c`'s token buffer. -/
def xPts (s c : Dev nD) (f : Buf (Elt F) ((xSlot s).view.loc (c : Thread nD τ))) : sProp 𝕄 := (xSlot s).view.loc (c : Thread nD τ) ↦[(xSlot s).view.set]{fullShare} f
/-- Slot `s` of device `c`'s weight buffer. -/
def wPts (s c : Dev nD) (f : Buf (Elt F) ((wSlot s).view.loc (c : Thread nD τ))) : sProp 𝕄 := (wSlot s).view.loc (c : Thread nD τ) ↦[(wSlot s).view.set]{fullShare} f
def sPts (c : Dev nD) (f : Buf (Elt F) (sM.view.loc (c : Thread nD τ))) : sProp 𝕄 := sM.view.loc (c : Thread nD τ) ↦[sM.view.set]{fullShare} f
def pPts (c : Dev nD) (f : Buf (Elt F) (pM.view.loc (c : Thread nD τ))) : sProp 𝕄 := pM.view.loc (c : Thread nD τ) ↦[pM.view.set]{fullShare} f

omit [FloatOps F] in
instance gPts_storable (c : Dev nD) (f) : BI.Storable (upEmb : UEmb _ 𝕄) (gPts (F := F) c f) := by unfold gPts; infer_instance
omit [FloatOps F] in
instance rPts_storable (c : Dev nD) (f) : BI.Storable (upEmb : UEmb _ 𝕄) (rPts (F := F) c f) := by unfold rPts; infer_instance
omit [FloatOps F] in
instance xPts_storable (s c : Dev nD) (f) : BI.Storable (upEmb : UEmb _ 𝕄) (xPts (F := F) s c f) := by unfold xPts; infer_instance
omit [FloatOps F] in
instance wPts_storable (s c : Dev nD) (f) : BI.Storable (upEmb : UEmb _ 𝕄) (wPts (F := F) s c f) := by unfold wPts; infer_instance
omit [FloatOps F] in
instance sPts_storable (c : Dev nD) (f) : BI.Storable (upEmb : UEmb _ 𝕄) (sPts (F := F) c f) := by unfold sPts; infer_instance
omit [FloatOps F] in
instance pPts_storable (c : Dev nD) (f) : BI.Storable (upEmb : UEmb _ 𝕄) (pPts (F := F) c f) := by unfold pPts; infer_instance

/-! ## The schedule -/

/-- What the partner's signal hands device `c`: the partner's four landing areas, at some contents. -/
def barPay (c : Dev nD) : sProp 𝕄 :=
  iprop((∃ f, rPts (peer c) f) ∗ (∃ f, xPts c (peer c) f) ∗ (∃ f, wPts c (peer c) f) ∗ (∃ f, pPts (peer c) f))

/-- What each cell's one round hands device `c`. -/
def pay (k : Fin 9) (c : Dev nD) : sProp 𝕄 := match k with
  | 0 => barPay c
  | 1 => gPts c (rstg m ρ c) | 2 => xPts c c (xallC m ρ c) | 3 => wPts c c (wtC m ρ c) | 4 => sPts c (psend m ρ c)
  | 5 => rPts c (rstg m ρ (peer c)) | 6 => xPts (peer c) c (xallC m ρ c) | 7 => wPts (peer c) c (wtC m ρ c) | 8 => pPts c (psend m ρ (peer c))

instance pay_storable (k : Fin 9) (c : Dev nD) : BI.Storable (upEmb : UEmb _ 𝕄) (pay (F := F) m ρ k c) := by
  unfold pay barPay; split <;> infer_instance

/-- One round, round 0, with one duty, on each of the nine cells of each TensorCore. -/
def exRd : Rounds.Schedule (GSem nD τ sig) Unit 𝕄 where
  duties g r := if r = 0 ∧ g.1.2 = .tc ∧ (kind g.2).isSome then {()} else ∅
  unitless _ := False
  amount g _ _ := match kind g.2 with | some k => amt k | none => 1
  payload g _ _ := match kind g.2 with | some k => pay m ρ k g.1.1 | none => iprop(emp)
  amount_pos g _ _ _ := by
    split
    · exact amt_pos _
    · exact Nat.one_pos

instance exRd_payload_storable (g : GSem nD τ sig) (r : ℕ) (d : Unit) :
    BI.Storable (upEmb : UEmb _ 𝕄) ((exRd (F := F) m ρ).payload g r d) := by
  show BI.Storable upEmb (match kind g.2 with | some k => pay m ρ k g.1.1 | none => iprop(emp))
  split <;> infer_instance

section Sched
variable (c : Dev nD) (k : Fin 9)

theorem duties_at : (exRd (F := F) m ρ).duties (kcell (c, k)) 0 = {()} := by
  dsimp only [exRd]; exact if_pos ⟨rfl, rfl, by rw [kind_csem]; rfl⟩
theorem mem_duties : () ∈ (exRd (F := F) m ρ).duties (kcell (c, k)) 0 := by rw [duties_at]; exact Finset.mem_singleton_self _
theorem duties_later (g : GSem nD τ sig) : ∀ r, 1 ≤ r → (exRd (F := F) m ρ).duties g r = ∅ :=
  fun r hr => by dsimp only [exRd]; rw [if_neg fun h => by omega]
theorem amount_at (d : Unit) : (exRd (F := F) m ρ).amount (kcell (c, k)) 0 d = amt k := by
  dsimp only [exRd]; rw [kind_csem]
theorem expect_at : (exRd (F := F) m ρ).expect (kcell (c, k)) 0 = amt k := by
  unfold Schedule.expect Schedule.amountOf; rw [duties_at, Finset.sum_singleton, amount_at]
theorem payload_at (d : Unit) : (exRd (F := F) m ρ).payload (kcell (c, k)) 0 d = pay m ρ k c := by
  dsimp only [exRd]; rw [kind_csem]
/-- The rest of a cell's round, its duty not taken: its payload. -/
theorem rest_at : bigSep ((exRd (F := F) m ρ).duties (kcell (c, k)) 0 \ ∅) (fun d => (exRd (F := F) m ρ).payload (kcell (c, k)) 0 d) = pay m ρ k c := by
  rw [Finset.sdiff_empty, duties_at, bigSep_singleton, payload_at]

end Sched

/-! ## What each core owes; the levels -/

/-- What device `c` owes its partner on the cells listed. -/
def Ol (c : Dev nD) (l : List (Fin 9)) : CellTallies nD τ sig Unit := (l.map fun j => tallyAt (kcell (peer c, j)) () (amt j)).sum

theorem Ol_nil (c : Dev nD) : Ol c [] = 0 := rfl
theorem Ol_cons (c : Dev nD) (j : Fin 9) (l : List (Fin 9)) : Ol c (j :: l) = Ol c l + tallyAt (kcell (peer c, j)) () (amt j) := by
  unfold Ol; rw [List.map_cons, List.sum_cons, add_comm]

/-- At launch: one unit on the partner's barrier cell and the credits of its four receive cells. -/
def O₀ (c : Dev nD) : CellTallies nD τ sig Unit := Ol c [0, 5, 6, 7, 8]

def L (g : GSem nD τ sig) : Finset Unit := if g.1.2 = .tc then {()} else ∅
def lvK : Fin 9 → ℕ := fun | 0 => 1 | 5 => 2 | 6 => 3 | 7 => 4 | 8 => 5 | _ => 0
def lvS (sm : SemLoc sig) : ℕ := match kind sm with | some k => lvK k | none => 0
/-- barrier cells at 1, receive cells at 2 to 5 in their order, everything else (staging, send, local) at 0. -/
def lv (g : GSem nD τ sig) (_ : Unit) : ℕ := lvS g.2

theorem lvS_csem (k : Fin 9) : lvS (csem k) = lvK k := by unfold lvS; rw [kind_csem]

theorem L_of_ne (g : GSem nD τ sig) (h : g.1.2 ≠ .tc) : L g = ∅ := if_neg h
theorem L_tc (c : Dev nD) (sm : SemLoc sig) : L ((c : Thread nD τ), sm) = {()} := if_pos rfl

theorem Ol_pos {c : Dev nD} {l : List (Fin 9)} {g : GSem nD τ sig} {u : Unit} (h : 0 < Ol c l g u) : ∃ j ∈ l, g = kcell (peer c, j) := by
  induction l with
  | nil => exact absurd h (Nat.lt_irrefl 0)
  | cons j l ih =>
    rw [Ol_cons, Pi.add_apply, Finsupp.add_apply, tallyAt_apply] at h
    by_cases hg : g = kcell (peer c, j) ∧ u = ()
    · exact ⟨j, List.mem_cons_self, hg.1⟩
    · rw [if_neg hg, Nat.add_zero] at h
      obtain ⟨j', h1, h2⟩ := ih h
      exact ⟨j', List.mem_cons_of_mem _ h1, h2⟩

/-- A device may wait on a cell whose level lies below those of all it owes. -/
theorem mayWait_of (c : Dev nD) (sm : SemLoc sig) (l : List (Fin 9)) (h : ∀ j ∈ l, lvS sm < lvK j) :
    (levAts L lv : sProp 𝕄) ⊢ MayWait (c : Thread nD τ) sm () (Ol c l) :=
  MayOwe.of_cut (L := L) (lev := lv) (lvS sm) (fun p hp => by rw [Finset.mem_singleton.mp hp, L_tc]; exact Finset.mem_singleton_self _)
    (fun g u hg => by obtain ⟨j, _, rfl⟩ := Ol_pos hg; exact Finset.mem_singleton_self _)
    (fun p hp => by rw [Finset.mem_singleton.mp hp]; exact le_refl _)
    (fun g u hg => by
      obtain ⟨j, hj, rfl⟩ := Ol_pos hg
      show lvS sm < lvS (csem j)
      rw [lvS_csem]; exact h j hj)

end Cert.ExchangeProof

end
-- ==== Proof.Rules.lean ====
/-
# `Rules`: one rule per kind of step of the kernel

The barrier signal and the waits on the exchange's cells, an addressed transfer to the partner, and the local copies of
weight chunks into the two-slot staging buffers (started, then waited for and read), each at a symbolic device.
-/
module

public import proofs.«01_k».proof.Proof.Protocol

@[expose] public section

set_option maxRecDepth 16384

noncomputable section

namespace Cert.ExchangeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)
open Idealize.ShloMosaic.ValueIdx

variable {F : FTy → Type} [FloatOps F]

local notation "𝕄" => MT nD τ sig Unit (Elt F) ℕ UU ℕ

/-- Where the counters of the local transfers lie in the algebra. -/
abbrev EC : UEmb Counters (MT nD τ sig Unit (Elt F) ℕ UU ℕ) :=
  ((UEmb.inr : UEmb Counters (UB × Counters)).trans (UEmb.inr : UEmb (UB × Counters) UU)).trans
    (uEmb (nD := nD) (sig := sig) (Ix := Unit) (Val := Elt F) (Name := ℕ) (U := UU) (Lvl := ℕ))

abbrev 𝒱₀ : Variants := Variants.none

variable (m : (ℓ : Loc nD τ sig) → Buf (Elt F) ℓ) (ρ : Dev nD → PrngReg)
variable (K : Dev nD × Fin 9 → ℕ) (c : Dev nD)

/-- What device `c` owes on the cells listed, whatever waits it has done. -/
def owesE (l : List (Fin 9)) : sProp 𝕄 := iprop(∃ W, owes (c : Thread nD τ) (Ol c l) W)

/-! ## The exchange's cells -/

/-- A wait for the whole round of one of the exchange's transfer cells, then the cell closed. -/
theorem wp_waitK (k : Fin 9) (q : DmaSem sig) (hq : csem k = .dma q) (l : List (Fin 9)) (hl : ∀ j ∈ l, lvK k < lvK j)
    {sp sp' : Space} {s s' : Shape} {e e' : EltTy} {κ' : Kind}
    {srcw : Memref sig .tc sp' s' e'} {dstw : Memref sig κ' sp s e} {hsrc : srcw.view.WordExact} {hdst : dstw.view.WordExact}
    (hN : dstw.view.dmaCredit = amt k)
    {α : Type} {Q : α → sProp 𝕄} {kk : PUnit → Prog (TpuEff nD τ sig (Elt F) Λ₀ .tc) α} :
    iprop(cellInv ER (exRd m ρ) (K (c, k)) (kcell (c, k)) ∗ cred (tallyAt (kcell (c, k)) () (amt k)) ∗ owesE c l ∗ levAts L lv ∗ atPos ER (kcell (c, k)) 0 ∅ 0)
      ⊢ iprop(((owesE c l ∗ semVal (kcell (c, k)) 0 ∗ pay m ρ k c) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 q srcw dstw hsrc hdst) kk) Q) := by
  have hmw : (levAts L lv : sProp 𝕄) ⊢ MayWait (c : Thread nD τ) (csem k) () (Ol c l) := mayWait_of c (csem k) l (by rw [lvS_csem]; exact hl)
  have hexp := expect_at m ρ c k
  have hrest := rest_at m ρ c k
  have hcl := Rounds.cell_close (E := ER) (Rd := exRd m ρ) (g := kcell (c, k)) (Set.mem_univ (K (c, k))) (fun h => h) (R := 0 + 1) (duties_later m ρ _)
  dsimp only [kcell] at hexp hrest hcl ⊢
  rw [hq] at hexp hrest hmw hcl ⊢
  unfold owesE
  iintro ⟨#HI, Hc, ⟨%W, HO⟩, #Hlev, Hat⟩ Hk
  iapply (Rounds.wp_wait_rest_token 𝒱₀ ER (exRd m ρ) (c : Thread nD τ) none (κ := K (c, k))
      (wpE_waitDma2_eq 𝒱₀ (c : Thread nD τ) none Set.univ) (Set.mem_univ _) () (O := Ol c l) (W := W) (R := 0) (m := 0) (T := ∅)
      (by rw [Nat.zero_add, hexp, hN])) $$ [Hc HO Hat]
  · isplitr; · iexact HI
    isplitl [Hc]; · rw [hN]; iexact Hc
    isplitl [HO]; · iexact HO
    isplitr; · iapply hmw; iexact Hlev
    iexact Hat
  iintro ⟨HO, Hat, -, Hpay⟩
  ihave Hp := (Entails.of_eq hrest) $$ Hpay
  imod hcl $$ [Hat] with Hz
  · isplitr; · iexact HI
    iexact Hat
  iapply Hk
  isplitl [HO]; · iexists _; iexact HO
  isplitl [Hz] <;> iassumption

/-- The wait on the barrier cell, then the cell closed. -/
theorem wp_waitBar :
    ∀ {α : Type} {Q : α → sProp 𝕄} {kk : PUnit → Prog (TpuEff nD τ sig (Elt F) Λ₀ .tc) α} (l : List (Fin 9)) (hl : ∀ j ∈ l, lvK 0 < lvK j) (n : ℕ) (hn : n = 1),
    iprop(cellInv ER (exRd m ρ) (K (c, 0)) (kcell (c, 0)) ∗ cred (tallyAt (kcell (c, 0)) () (amt 0)) ∗ owesE c l ∗ levAts L lv ∗ atPos ER (kcell (c, 0)) 0 ∅ 0)
      ⊢ iprop(((owesE c l ∗ semVal (kcell (c, 0)) 0 ∗ pay m ρ 0 c) -∗ wp frame (wpE (defs₀ (F := F)) 𝒱₀ (c : Thread nD τ) none) Set.univ (kk ⟨⟩) Q)
        -∗ wp frame (wpE (defs₀ (F := F)) 𝒱₀ (c : Thread nD τ) none) Set.univ (.op (.semWait barS n) kk) Q) := by
  intro α Q kk l hl n hn
  subst hn
  have hmw : (levAts L lv : sProp 𝕄) ⊢ MayWait (c : Thread nD τ) (csem 0) () (Ol c l) := mayWait_of c (csem 0) l (by rw [lvS_csem]; exact hl)
  unfold owesE
  iintro ⟨#HI, Hc, ⟨%W, HO⟩, #Hlev, Hat⟩ Hk
  iapply (Rounds.wp_wait_rest_token 𝒱₀ ER (exRd m ρ) (c : Thread nD τ) none (κ := K (c, 0))
      (wpE_semWait_eq 𝒱₀ (c : Thread nD τ) none Set.univ) (Set.mem_univ _) () (O := Ol c l) (W := W) (R := 0) (m := 0) (T := ∅)
      (by rw [Nat.zero_add]; exact (expect_at m ρ c 0).symm)) $$ [Hc HO Hat]
  · isplitr; · iexact HI
    isplitl [Hc]; · iexact Hc
    isplitl [HO]; · iexact HO
    isplitr; · iapply hmw; iexact Hlev
    iexact Hat
  iintro ⟨HO, Hat, -, Hpay⟩
  ihave Hp := (Entails.of_eq (rest_at m ρ c 0)) $$ Hpay
  imod (Rounds.cell_close (E := ER) (Rd := exRd m ρ) (g := kcell (c, 0)) (Set.mem_univ (K (c, 0))) (fun h => h) (R := 0 + 1) (duties_later m ρ _)) $$ [Hat] with Hz
  · isplitr; · iexact HI
    iexact Hat
  iapply Hk
  isplitl [HO]; · iexists _; iexact HO
  isplitl [Hz] <;> iassumption

/-- The signal to the partner's barrier cell, handing over the four landing areas. -/
theorem wp_sigBar (n : Dev nD) (hn : n = peer c) (l : List (Fin 9)) (u : ℕ) (hu : u = 1)
    {α : Type} {Q : α → sProp 𝕄} {kk : PUnit → Prog (TpuEff nD τ sig (Elt F) Λ₀ .tc) α} :
    iprop(cellInv ER (exRd m ρ) (K (peer c, 0)) (kcell (peer c, 0)) ∗ owesE c (0 :: l) ∗ dutyTok ER (kcell (peer c, 0)) 0 ()
        ∗ pay m ρ 0 (peer c) ∗ reached ER (kcell (peer c, 0)) 0)
      ⊢ iprop((owesE c l -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (Dev.tc n : Thread nD τ) barS u) kk) Q) := by
  subst hn; subst hu
  unfold owesE
  iintro ⟨#HI, ⟨%W, HO⟩, Ht, Hp, #Hr⟩ Hk
  iapply (Rounds.wp_signal 𝒱₀ ER (exRd m ρ) (c : Thread nD τ) none (dst := (peer c : Thread nD τ)) (κ := K (peer c, 0))
      (d := ()) (mem_duties m ρ (peer c) 0) (amount_at m ρ (peer c) 0 ()) () (Ol c l) (Ol_cons c 0 l))
    $$ [HO Ht Hp]
  · isplitr; · iexact HI
    isplitl [HO]; · iexact HO
    isplitl [Ht]; · iexact Ht
    isplitl [Hp]; · iapply (Entails.of_eq (payload_at m ρ (peer c) 0 ()).symm); iexact Hp
    iexact Hr
  iintro HO
  iapply Hk
  iexists _; iexact HO

/-- An addressed transfer to the partner, its completions on the send cell `k₁` and on the partner's receive cell `k₂`. -/
theorem wp_sendK (k₁ k₂ : Fin 9) (qs qr : DmaSem sig) (hs : csem k₁ = .dma qs) (hr : csem k₂ = .dma qr) (n : Dev nD) (hn : n = peer c) (l : List (Fin 9))
    {sp sp' : Space} {s : Shape} {e : EltTy} {src : Memref sig .tc sp s e} {dst : Memref sig .tc sp' s e}
    {hsc : (dst : Memref sig (Dev.tc n : Thread nD τ).2.kind sp' s e).view.ref.isScScratch = false}
    {hsrc : src.view.WordExact} {hdst : dst.view.WordExact}
    {hsem : DmaTarget.Typed sp (.dma qr) (.remote (Dev.tc n : Thread nD τ) dst (.dma qs) hsc)}
    {α : Type} {Q : α → sProp 𝕄} {kk : PUnit → Prog (TpuEff nD τ sig (Elt F) Λ₀ .tc) α}
    (fs : Buf (Elt F) (src.view.loc (c : Thread nD τ))) (fd : Buf (Elt F) (dst.view.loc (peer c : Thread nD τ)))
    (hN : dst.view.dmaCredit = amt k₁) (h12 : amt k₁ = amt k₂)
    (hp₁ : (src.view.loc (c : Thread nD τ) ↦[src.view.set]{fullShare} fs : sProp 𝕄) ⊢ pay m ρ k₁ c)
    (hp₂ : (dst.view.loc (peer c : Thread nD τ) ↦[dst.view.set]{fullShare} (dst.view.write (Elt F) fd (src.view.read (Elt F) fs) Finset.univ) : sProp 𝕄)
      ⊢ pay m ρ k₂ (peer c)) :
    iprop(cellInv ER (exRd m ρ) (K (c, k₁)) (kcell (c, k₁)) ∗ cellInv ER (exRd m ρ) (K (peer c, k₂)) (kcell (peer c, k₂))
        ∗ (src.view.loc (c : Thread nD τ) ↦[src.view.set]{fullShare} fs) ∗ (dst.view.loc (peer c : Thread nD τ) ↦[dst.view.set]{fullShare} fd)
        ∗ owesE c (k₂ :: l)
        ∗ dutyTok ER (kcell (c, k₁)) 0 () ∗ reached ER (kcell (c, k₁)) 0
        ∗ dutyTok ER (kcell (peer c, k₂)) 0 () ∗ reached ER (kcell (peer c, k₂)) 0)
      ⊢ iprop(((cred (tallyAt (kcell (c, k₁)) () (amt k₁)) ∗ owesE c l) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc n : Thread nD τ) dst (.dma qs) hsc) (.dma qr) hsrc hdst hsem) kk) Q) := by
  subst hn
  have hm₁ := mem_duties m ρ c k₁
  have hm₂ := mem_duties m ρ (peer c) k₂
  have ha₁ := amount_at m ρ c k₁ ()
  have ha₂ := amount_at m ρ (peer c) k₂ ()
  have hy₁ := payload_at m ρ c k₁ ()
  have hy₂ := payload_at m ρ (peer c) k₂ ()
  have hO := Ol_cons c k₂ l
  dsimp only [kcell] at hm₁ hm₂ ha₁ ha₂ hy₁ hy₂ hO ⊢
  rw [hs] at hm₁ ha₁ hy₁ ⊢
  rw [hr] at hm₂ ha₂ hy₂ hO ⊢
  unfold owesE
  iintro ⟨#HI1, #HI2, Hs, Hd, ⟨%W, HO⟩, Ht1, #Hr1, Ht2, #Hr2⟩ Hk
  iapply (Rounds.wp_send_pointsTo 𝒱₀ ER (exRd m ρ) (c : Thread nD τ) none (κ₁ := K (c, k₁)) (κ₂ := K (peer c, k₂))
    (r₁ := 0) (r₂ := 0) (d₁ := ()) (d₂ := ()) (fs := fs) (fd := fd) hm₁ hm₂ () () (amt k₁) hN ha₁ (ha₂.trans h12.symm) (O₀ := Ol c (k₂ :: l)) (Ol c l) (by rw [hO, h12]) (W := W)
    (hp₁.trans (Entails.of_eq hy₁.symm)) (hp₂.trans (Entails.of_eq hy₂.symm))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists _; iexact HO

/-! ## The local copies of the weight chunks -/

abbrev sqz {sp : Space} (v : Memref sig .tc sp S1x1024x1024 .f32) : Memref sig .tc sp S1024x1024 .f32 := v.squeeze S1024x1024 squeezes_S1x1024x1024_S1024x1024

variable (st : Memref sig .tc .vmem S1x1024x1024 .f32) (b : Ref sig .tc) (q : DmaSem sig) (h : PosShare TreeShare)
  (V : Buf (Elt F) ((c : Thread nD τ).loc b))

/-- Nothing in flight on the cell `q`: the slot, a share of the array and the counter at zero. -/
def Idle : sProp 𝕄 :=
  iprop((∃ f, st.view.loc (c : Thread nD τ) ↦[st.view.set]{fullShare} f) ∗ (((c : Thread nD τ).loc b) ↦{h} V) ∗ semVal ((c : Thread nD τ), .dma q) 0)
/-- A copy in flight on the cell `q` that will leave the slot reading `w`. -/
def Fly (w : S1x1024x1024.Idx → Elt F .f32) : sProp 𝕄 :=
  iprop(∃ D, Flight EC (c : Thread nD τ) (.dma q) () (sqz st).view.dmaCredit D
    ∗ (D -∗ ((∃ f, ⌜st.view.read (Elt F) f = w⌝ ∗ (st.view.loc (c : Thread nD τ) ↦[st.view.set]{fullShare} f)) ∗ (((c : Thread nD τ).loc b) ↦{h} V))))

/-- A copy out of one view into another, both squeezed, leaves the second reading what the first reads. -/
theorem read_copied {sp : Space} (src : Memref sig .tc sp S1x1024x1024 .f32) (fs : src.view.ty.Contents (Elt F)) (fd : st.view.ty.Contents (Elt F)) :
    st.view.read (Elt F) ((sqz st).view.write (Elt F) fd ((sqz src).view.read (Elt F) fs) Finset.univ) = src.view.read (Elt F) fs := by
  have hh : S1024x1024.numel = S1x1024x1024.numel := by decide
  show st.view.read (Elt F) ((st.view.reshape S1024x1024 hh).write (Elt F) fd ((src.view.reshape S1024x1024 hh).read (Elt F) fs) Finset.univ) = _
  rw [View.write_reshape_univ, View.read_write_univ]
  funext x
  show src.view.read (Elt F) fs (Shape.reshapeEquiv hh ((Shape.reshapeEquiv hh).symm x)) = _
  rw [Equiv.apply_symm_apply]

/-- A local copy starts: the slot, the share and the counter go into the flight. -/
theorem wp_start {sp : Space} (src : Memref sig .tc sp S1x1024x1024 .f32) (w : S1x1024x1024.Idx → Elt F .f32)
    (V : Buf (Elt F) (src.view.loc (c : Thread nD τ)))
    (hw : src.view.read (Elt F) V = w)
    {hsrc : (sqz src).view.WordExact} {hdst : (sqz st).view.WordExact} {hsem : DmaTarget.Typed sp (.dma q) (DmaTarget.here (nD := nD) (p := (Proc.tc : Proc τ)) (sqz st))}
    {α : Type} {Q : α → sProp 𝕄} {kk : PUnit → Prog (TpuEff nD τ sig (Elt F) Λ₀ .tc) α} :
    Idle c st src.view.ref q h V
      ⊢ iprop((Fly c st src.view.ref q h V w -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma (sqz src) (.here (sqz st)) (.dma q) hsrc hdst hsem) kk) Q) := by
  unfold Idle
  iintro ⟨⟨%f, Hd⟩, Hs, Hv⟩ Hk
  ihave Hss := (pointsTo_split_subset (Finset.subset_univ (sqz src).view.set)).1 $$ Hs
  icases Hss with ⟨Hs1, Hs2⟩
  have hset : (sqz st).view.set = st.view.set := View.set_reshape _ _
  iapply (wp_dmaLocal EC 𝒱₀ (c : Thread nD τ) none (src := sqz src) (via := .same) (dst := sqz st) (sm := .dma q) (q := h) (fs := V) (Sd := st.view.set) (fd := f) ()
    (sqz st).view.dmaCredit rfl (View.dmaCredit_pos _ (by decide)) (by rw [hset])) $$ [Hd Hs1 Hv]
  · isplitl [Hs1]; · iexact Hs1
    isplitl [Hd] <;> iassumption
  iintro HF
  iapply Hk
  unfold Fly
  iexists _
  isplitl [HF]; · iexact HF
  iintro ⟨Hd, Hs1⟩
  isplitl [Hd]
  · iexists _
    isplitr
    · ipureintro
      exact (read_copied st src V f).trans hw
    · iexact Hd
  · iapply (pointsTo_split_subset (Finset.subset_univ (sqz src).view.set)).2
    isplitl [Hs1] <;> iassumption

/-- The slot of a two-slot staging buffer at the offsets `off`. -/
abbrev slotAt (M : Memref sig .tc .vmem S2x1024x1024 .f32) (off : Fin 3 → Nat)
    (inb : ∀ a, off a + S1x1024x1024.size a ≤ S2x1024x1024.size a) : Memref sig .tc .vmem S1x1024x1024 .f32 :=
  M.slice (Rect.unit (s := S2x1024x1024) off S1x1024x1024.size inb) (fun _ => rfl)

/-- The wait for a local copy, then the load of the slot: the load reads what the copy brought. -/
theorem wp_waitload (M : Memref sig .tc .vmem S2x1024x1024 .f32) (off : Fin 3 → Nat)
    (inb : ∀ a, off a + S1x1024x1024.size a ≤ S2x1024x1024.size a) (w : S1x1024x1024.Idx → Elt F .f32) (hk : kind (.dma q) = none)
    {sp' : Space} {s' : Shape} {e' : EltTy} {srcw : Memref sig .tc sp' s' e'} {hsrc : srcw.view.WordExact} {hdst : (sqz (slotAt M off inb)).view.WordExact}
    {hl : M.view.LoadsAt (Rect.unit (s := S2x1024x1024) off S1x1024x1024.size inb).toLoadRect}
    {α : Type} {Q : α → sProp 𝕄} {kk : (S1x1024x1024.Idx → Elt F .f32) → Prog (TpuEff nD τ sig (Elt F) Λ₀ .tc) α} :
    iprop(Fly c (slotAt M off inb) b q h V w ∗ owesE c [8] ∗ levAts L lv)
      ⊢ iprop(((Idle c (slotAt M off inb) b q h V ∗ owesE c [8]) -∗ wp frame (wpE (defs₀ (F := F)) 𝒱₀ (c : Thread nD τ) none) Set.univ (kk w) Q)
        -∗ wp frame (wpE (defs₀ (F := F)) 𝒱₀ (c : Thread nD τ) none) Set.univ
            (.op (.waitDma2 q srcw (sqz (slotAt M off inb)) hsrc hdst) fun _ =>
              .op (.load M (Rect.unit (s := S2x1024x1024) off S1x1024x1024.size inb).toLoadRect hl) kk) Q) := by
  have hmw : (levAts L lv : sProp 𝕄) ⊢ MayWait (c : Thread nD τ) (.dma q) () (Ol c [8]) :=
    mayWait_of c (.dma q) [8] (fun j hj => by
      rw [List.mem_singleton.mp hj]; unfold lvS; rw [hk]; decide)
  unfold Fly owesE
  iintro ⟨⟨%D, HF, Hw⟩, ⟨%W, HO⟩, #Hlev⟩ Hk
  iapply (wp_waitLocalO EC 𝒱₀ (c : Thread nD τ) none () rfl) $$ [HF HO]
  · isplitl [HF]; · iexact HF
    isplitl [HO]; · iexact HO
    iapply hmw; iexact Hlev
  iintro ⟨HD, Hv, HO⟩
  ihave Hd := Hw $$ HD
  icases Hd with ⟨⟨%f, %hf, Hd⟩, Hs⟩
  iapply (wp_load 𝒱₀ (c : Thread nD τ) none Set.univ (m := M) (r := (Rect.unit (s := S2x1024x1024) off S1x1024x1024.size inb).toLoadRect)
    (S := (slotAt M off inb).view.set) (q := fullShare) (f := f) (by
      show _ ⊆ (M.view.slice (Rect.unit (s := S2x1024x1024) off S1x1024x1024.size inb)).set
      rw [View.set_slice]; exact Finset.Subset.refl _)) $$ [Hd]
  · iexact Hd
  iintro Hd
  have hr : M.view.readAt (Elt F) (Rect.unit (s := S2x1024x1024) off S1x1024x1024.size inb).toLoadRect f = w := hf
  rw [hr]
  iapply Hk
  isplitl [Hd Hs Hv]
  · unfold Idle
    isplitl [Hd]; · iexists f; iexact Hd
    isplitl [Hs] <;> iassumption
  · iexists _; iexact HO

end Cert.ExchangeProof

end
-- ==== Proof.Slots.lean ====
/-
# `Slots`: the two slots of the exchanged buffers

The token buffer and the weight buffer have two slots, one for each device of a pair. Here: which elements a slot has, that
the two slots of a pair are the whole buffer, what the store into a slot, the copy of a slot and the load of a slot give.
-/
module

public import proofs.«01_k».proof.Proof.Rules

@[expose] public section

set_option maxRecDepth 16384

noncomputable section

namespace Cert.ExchangeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- Copying what a view reads of `fs` over `fd` leaves `fs` on the view's elements. -/
theorem copied_at {sp : Space} {s : Shape} {e : EltTy} (v : View sig .tc sp s e) (fd fs : v.ty.Contents (Elt F)) (i : v.ty.Idx)
    (hi : i ∈ v.set) : v.write (Elt F) fd (v.read (Elt F) fs) Finset.univ i = fs i := by
  obtain ⟨x, -, rfl⟩ := Finset.mem_map.mp hi
  rw [View.write_emb_of_mem (v := v) fd _ (Finset.mem_univ x), View.read_apply]
  simp

theorem peer_div : (peer c).val / 8 = 1 - c.val / 8 := by revert c; decide
theorem div_lt : c.val / 8 < 2 := by revert c; decide

/-! ## The token buffer -/

theorem mem_xSlot (s : Dev nD) (i : S2x512x1024.Idx) : i ∈ (xSlot s).view.set ↔ (i 0).val = s.val / 8 := by
  have h0 : (xSlot s).view.set = (Rect.unit (s := S2x512x1024) (k0_off2 s) S1x512x1024.size (k0_off2_inb s)).set :=
    (View.set_reshape _ _).trans (View.set_slice_whole cc0_scratch0 _)
  rw [h0, Rect.mem_set_unit, k0_off2_eq]
  have h1 : (i 1).val < 512 := (i 1).isLt
  have h2 : (i 2).val < 1024 := (i 2).isLt
  constructor
  · intro h; have := h 0
    change s.val / 8 ≤ (i 0).val ∧ (i 0).val < s.val / 8 + 1 at this
    omega
  · intro h a
    match a with
    | ⟨0, _⟩ => show s.val / 8 ≤ (i 0).val ∧ (i 0).val < s.val / 8 + 1; omega
    | ⟨1, _⟩ => show 0 ≤ (i 1).val ∧ (i 1).val < 0 + 512; omega
    | ⟨2, _⟩ => show 0 ≤ (i 2).val ∧ (i 2).val < 0 + 1024; omega

theorem xSlot_disjoint : Disjoint (xSlot c).view.set (xSlot (peer c)).view.set := by
  rw [Finset.disjoint_left]
  intro i h1 h2
  have h3 := (mem_xSlot c i).mp h1
  have h4 := (mem_xSlot (peer c) i).mp h2
  rw [peer_div] at h4; have := div_lt c; omega

theorem xSlot_union : (xSlot c).view.set ∪ (xSlot (peer c)).view.set = Finset.univ := by
  apply Finset.eq_univ_iff_forall.mpr
  intro i
  have h0 : ((i : S2x512x1024.Idx) 0).val < 2 := (i 0).isLt
  have := div_lt c
  rw [Finset.mem_union]
  by_cases h : ((i : S2x512x1024.Idx) 0).val = c.val / 8
  · exact .inl ((mem_xSlot c i).mpr h)
  · exact .inr ((mem_xSlot (peer c) i).mpr (by rw [peer_div]; omega))

/-- The token buffer is its two slots. -/
theorem xPts_split (f : Buf (Elt F) ((c : Thread nD τ).loc cc0_scratch0)) :
    ((c : Thread nD τ).loc cc0_scratch0 ↦{fullShare} f : sProp 𝕄) ⊣⊢ iprop(xPts c c f ∗ xPts (peer c) c f) := by
  have h := pointsTo_union (Ix := Unit) (Val := Elt F) (Name := ℕ) (U := UU) (Lvl := ℕ) (ℓ := (c : Thread nD τ).loc cc0_scratch0)
    (q := fullShare) (f := f) (xSlot_disjoint c)
  rw [xSlot_union c] at h
  exact h

/-- The window of slot `k` of the token buffer. -/
abbrev xRect (off : Fin 3 → Nat) (inb : ∀ a, off a + S1x512x1024.size a ≤ S2x512x1024.size a) : Rect S2x512x1024 :=
  Rect.unit (s := S2x512x1024) off S1x512x1024.size inb

theorem xAccess_set (s : Dev nD) (inb) : (xaM.access (xRect (k0_off1 s) inb)).setOn Finset.univ = (xSlot s).view.set := by
  have h0 : (xaM.access (xRect (k0_off1 s) inb)).setOn Finset.univ = (xRect (k0_off1 s) inb).set := View.set_slice_whole cc0_scratch0 _
  have h1 : (xSlot s).view.set = (Rect.unit (s := S2x512x1024) (k0_off2 s) S1x512x1024.size (k0_off2_inb s)).set :=
    (View.set_reshape _ _).trans (View.set_slice_whole cc0_scratch0 _)
  rw [h0, h1]
  ext i
  rw [Rect.mem_set_unit, Rect.mem_set_unit, k0_off1_eq, k0_off2_eq]

theorem xLoad_set (s : Dev nD) (inb) : xaM.view.setOn (xRect (k0_off1 s) inb).toLoadRect.set ⊆ (xSlot s).view.set := by
  intro i hi
  obtain ⟨j, hj, rfl⟩ := Finset.mem_map.mp hi
  rw [← xAccess_set s inb]
  have h0 : (xaM.access (xRect (k0_off1 s) inb)).setOn Finset.univ = (xRect (k0_off1 s) inb).set := View.set_slice_whole cc0_scratch0 _
  rw [h0]; exact hj

/-- The store of the device's tokens into its slot. -/
theorem xStored (f : Buf (Elt F) ((c : Thread nD τ).loc cc0_scratch0)) (inb) (i : S2x512x1024.Idx) (hi : i ∈ (xSlot c).view.set) :
    (xaM.access (xRect (k0_off1 c) inb)).write (Elt F) f (xpay m ρ c) Finset.univ i = xallC m ρ c i := by
  have h := (mem_xSlot c i).mp hi
  have he : (xaM.access (xRect (k0_off1 c) inb)).emb (ix3 (0 : Fin 1) (i 1) (i 2)) = i := by
    show (xRect (k0_off1 c) inb).emb (ix3 (0 : Fin 1) (i 1) (i 2)) = i
    funext a
    apply Fin.ext
    rw [Rect.emb_apply]
    show k0_off1 c a + 1 * _ = _
    rw [congrFun (k0_off1_eq c) a]
    match a with
    | ⟨0, _⟩ => show c.val / 8 + 1 * 0 = (i 0).val; omega
    | ⟨1, _⟩ => show 0 + 1 * (i 1).val = (i 1).val; omega
    | ⟨2, _⟩ => show 0 + 1 * (i 2).val = (i 2).val; omega
  have hw := View.write_emb_of_mem (v := xaM.access (xRect (k0_off1 c) inb)) (Val := Elt F) f (xpay m ρ c)
    (Finset.mem_univ (ix3 (0 : Fin 1) (i 1) (i 2)))
  refine (congrArg ((xaM.access (xRect (k0_off1 c) inb)).write (Elt F) f (xpay m ρ c) Finset.univ) he.symm).trans (hw.trans ?_)
  show xpay m ρ c (ix3 (0 : Fin 1) (i 1) (i 2)) = xpay m ρ (pairDev c (i 0).val) (ix3 (0 : Fin 1) (i 1) (i 2))
  rw [h, pairDev_self]

/-- The load of slot `k` of the full token buffer. -/
theorem xLoaded (k : ℕ) (hk : k < 2) (inb) :
    xaM.view.readAt (Elt F) (xRect ![k, 0, 0] inb).toLoadRect (xallC m ρ c) = xpay m ρ (pairDev c k) := by
  funext j
  show xpay m ρ (pairDev c ((xRect ![k, 0, 0] inb).emb j 0).val) (ix3 (0 : Fin 1) ((xRect ![k, 0, 0] inb).emb j 1) ((xRect ![k, 0, 0] inb).emb j 2)) = _
  have h0 : (j 0).val < 1 := (j 0).isLt
  have e0 : ((xRect ![k, 0, 0] inb).emb j 0).val = k := by
    show k + 1 * (j 0).val = k; omega
  rw [e0]
  congr 1
  funext a
  apply Fin.ext
  match a with
  | ⟨0, _⟩ => show 0 = (j 0).val; omega
  | ⟨1, _⟩ => show 0 + 1 * (j 1).val = (j 1).val; omega
  | ⟨2, _⟩ => show 0 + 1 * (j 2).val = (j 2).val; omega

/-! ## The weight buffer -/

theorem mem_wSlot (s : Dev nD) (i : S2x512x8.Idx) : i ∈ (wSlot s).view.set ↔ (i 0).val = s.val / 8 := by
  have h0 : (wSlot s).view.set = (Rect.unit (s := S2x512x8) (k0_off4 s) S1x512x8.size (k0_off4_inb s)).set :=
    (View.set_reshape _ _).trans (View.set_slice_whole cc0_scratch2 _)
  rw [h0, Rect.mem_set_unit, k0_off4_eq]
  have h1 : (i 1).val < 512 := (i 1).isLt
  have h2 : (i 2).val < 8 := (i 2).isLt
  constructor
  · intro h; have := h 0
    change s.val / 8 ≤ (i 0).val ∧ (i 0).val < s.val / 8 + 1 at this
    omega
  · intro h a
    match a with
    | ⟨0, _⟩ => show s.val / 8 ≤ (i 0).val ∧ (i 0).val < s.val / 8 + 1; omega
    | ⟨1, _⟩ => show 0 ≤ (i 1).val ∧ (i 1).val < 0 + 512; omega
    | ⟨2, _⟩ => show 0 ≤ (i 2).val ∧ (i 2).val < 0 + 8; omega

theorem wSlot_disjoint : Disjoint (wSlot c).view.set (wSlot (peer c)).view.set := by
  rw [Finset.disjoint_left]
  intro i h1 h2
  have h3 := (mem_wSlot c i).mp h1
  have h4 := (mem_wSlot (peer c) i).mp h2
  rw [peer_div] at h4; have := div_lt c; omega

theorem wSlot_union : (wSlot c).view.set ∪ (wSlot (peer c)).view.set = Finset.univ := by
  apply Finset.eq_univ_iff_forall.mpr
  intro i
  have h0 : ((i : S2x512x8.Idx) 0).val < 2 := (i 0).isLt
  have := div_lt c
  rw [Finset.mem_union]
  by_cases h : ((i : S2x512x8.Idx) 0).val = c.val / 8
  · exact .inl ((mem_wSlot c i).mpr h)
  · exact .inr ((mem_wSlot (peer c) i).mpr (by rw [peer_div]; omega))

/-- The weight buffer is its two slots. -/
theorem wPts_split (f : Buf (Elt F) ((c : Thread nD τ).loc cc0_scratch2)) :
    ((c : Thread nD τ).loc cc0_scratch2 ↦{fullShare} f : sProp 𝕄) ⊣⊢ iprop(wPts c c f ∗ wPts (peer c) c f) := by
  have h := pointsTo_union (Ix := Unit) (Val := Elt F) (Name := ℕ) (U := UU) (Lvl := ℕ) (ℓ := (c : Thread nD τ).loc cc0_scratch2)
    (q := fullShare) (f := f) (wSlot_disjoint c)
  rw [wSlot_union c] at h
  exact h

/-- The window of slot `k` of the weight buffer. -/
abbrev wRect (off : Fin 3 → Nat) (inb : ∀ a, off a + S1x512x8.size a ≤ S2x512x8.size a) : Rect S2x512x8 :=
  Rect.unit (s := S2x512x8) off S1x512x8.size inb

theorem wAccess_set (s : Dev nD) (inb) : (wtM.access (wRect (k0_off3 s) inb)).setOn Finset.univ = (wSlot s).view.set := by
  have h0 : (wtM.access (wRect (k0_off3 s) inb)).setOn Finset.univ = (wRect (k0_off3 s) inb).set := View.set_slice_whole cc0_scratch2 _
  have h1 : (wSlot s).view.set = (Rect.unit (s := S2x512x8) (k0_off4 s) S1x512x8.size (k0_off4_inb s)).set :=
    (View.set_reshape _ _).trans (View.set_slice_whole cc0_scratch2 _)
  rw [h0, h1]
  ext i
  rw [Rect.mem_set_unit, Rect.mem_set_unit, k0_off3_eq, k0_off4_eq]

theorem wLoad_set (s : Dev nD) (inb) : wtM.view.setOn (wRect (k0_off3 s) inb).toLoadRect.set ⊆ (wSlot s).view.set := by
  intro i hi
  obtain ⟨j, hj, rfl⟩ := Finset.mem_map.mp hi
  rw [← wAccess_set s inb]
  have h0 : (wtM.access (wRect (k0_off3 s) inb)).setOn Finset.univ = (wRect (k0_off3 s) inb).set := View.set_slice_whole cc0_scratch2 _
  rw [h0]; exact hj

/-- The store of the device's weights into its slot. -/
theorem wStored (f : Buf (Elt F) ((c : Thread nD τ).loc cc0_scratch2)) (inb) (i : S2x512x8.Idx) (hi : i ∈ (wSlot c).view.set) :
    (wtM.access (wRect (k0_off3 c) inb)).write (Elt F) f (wpay m ρ c) Finset.univ i = wtC m ρ c i := by
  have h := (mem_wSlot c i).mp hi
  have he : (wtM.access (wRect (k0_off3 c) inb)).emb (ix3 (0 : Fin 1) (i 1) (i 2)) = i := by
    show (wRect (k0_off3 c) inb).emb (ix3 (0 : Fin 1) (i 1) (i 2)) = i
    funext a
    apply Fin.ext
    rw [Rect.emb_apply]
    show k0_off3 c a + 1 * _ = _
    rw [congrFun (k0_off3_eq c) a]
    match a with
    | ⟨0, _⟩ => show c.val / 8 + 1 * 0 = (i 0).val; omega
    | ⟨1, _⟩ => show 0 + 1 * (i 1).val = (i 1).val; omega
    | ⟨2, _⟩ => show 0 + 1 * (i 2).val = (i 2).val; omega
  have hw := View.write_emb_of_mem (v := wtM.access (wRect (k0_off3 c) inb)) (Val := Elt F) f (wpay m ρ c)
    (Finset.mem_univ (ix3 (0 : Fin 1) (i 1) (i 2)))
  refine (congrArg ((wtM.access (wRect (k0_off3 c) inb)).write (Elt F) f (wpay m ρ c) Finset.univ) he.symm).trans (hw.trans ?_)
  show wpay m ρ c (ix3 (0 : Fin 1) (i 1) (i 2)) = wpay m ρ (pairDev c (i 0).val) (ix3 (0 : Fin 1) (i 1) (i 2))
  rw [h, pairDev_self]

/-- The load of slot `k` of the full weight buffer. -/
theorem wLoaded (k : ℕ) (hk : k < 2) (inb) :
    wtM.view.readAt (Elt F) (wRect ![k, 0, 0] inb).toLoadRect (wtC m ρ c) = wpay m ρ (pairDev c k) := by
  funext j
  show wpay m ρ (pairDev c ((wRect ![k, 0, 0] inb).emb j 0).val) (ix3 (0 : Fin 1) ((wRect ![k, 0, 0] inb).emb j 1) ((wRect ![k, 0, 0] inb).emb j 2)) = _
  have h0 : (j 0).val < 1 := (j 0).isLt
  have e0 : ((wRect ![k, 0, 0] inb).emb j 0).val = k := by
    show k + 1 * (j 0).val = k; omega
  rw [e0]
  congr 1
  funext a
  apply Fin.ext
  match a with
  | ⟨0, _⟩ => show 0 = (j 0).val; omega
  | ⟨1, _⟩ => show 0 + 1 * (j 1).val = (j 1).val; omega
  | ⟨2, _⟩ => show 0 + 1 * (j 2).val = (j 2).val; omega

end Cert.ExchangeProof

end
-- ==== Proof.Chunk.lean ====
/-
# `Chunk`: the weight chunks streamed through two staging buffers, and the accumulation over them

Eight chunks (four experts, two halves of the hidden axis each) are copied from the two weight arrays into two-slot staging
buffers, each copy started before the chunk's turn and waited for when its turn comes. Each part of the kernel that does
this is run here from the state of the four copy cells before it to their state after it.
-/
module

public import proofs.«01_k».proof.Proof.Rules

@[expose] public section

set_option maxRecDepth 16384

noncomputable section

namespace Cert.ExchangeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg) (c : Dev nD)

abbrev a2M : Memref sig .tc .hbm S4x1024x2048 .f32 := Memref.whole main_arg2
abbrev a3M : Memref sig .tc .hbm S4x2048x1024 .f32 := Memref.whole main_arg3
abbrev w1M : Memref sig .tc .vmem S2x1024x1024 .f32 := Memref.whole cc0_scratch6
abbrev w2M : Memref sig .tc .vmem S2x1024x1024 .f32 := Memref.whole cc0_scratch7

/-- A function of the kernel's operands at the operands this launch gives it. -/
abbrev atArgs {R : Sort _}
    (f : (arg0 : Memref sig .tc .vmem S512x1024 .f32) → arg0.IsWhole → (arg1 : Memref sig .tc .vmem S1024x4 .f32) → arg1.IsWhole →
      (arg2 : Memref sig .tc .hbm S4x1024x2048 .f32) → arg2.IsWhole → (arg3 : Memref sig .tc .hbm S4x2048x1024 .f32) → arg3.IsWhole →
      (arg4 : Memref sig .tc .vmem S512x1024 .f32) → arg4.IsWhole → (arg5 : Memref sig .tc .vmem S2x512x1024 .bf16) → arg5.IsWhole →
      (arg6 : Memref sig .tc .vmem S1024x4 .f32) → arg6.IsWhole → (arg7 : Memref sig .tc .vmem S2x512x8 .f32) → arg7.IsWhole →
      (arg8 : Memref sig .tc .vmem S2x512x1024 .f32) → arg8.IsWhole → (arg9 : Memref sig .tc .vmem S512x1024 .bf16) → arg9.IsWhole →
      (arg10 : Memref sig .tc .vmem S512x1024 .bf16) → arg10.IsWhole → (arg11 : Memref sig .tc .vmem S2x1024x1024 .f32) → arg11.IsWhole →
      (arg12 : Memref sig .tc .vmem S2x1024x1024 .f32) → arg12.IsWhole → DmaSems sig S4 → DmaSems sig S4 → DmaSems sig S2x2 → R) : R :=
  f xM (Memref.isWhole_whole _) gM (Memref.isWhole_whole _) a2M (Memref.isWhole_whole _) a3M (Memref.isWhole_whole _) oM (Memref.isWhole_whole _)
    xaM (Memref.isWhole_whole _) rM (Memref.isWhole_whole _) wtM (Memref.isWhole_whole _) paM (Memref.isWhole_whole _) sM (Memref.isWhole_whole _)
    pM (Memref.isWhole_whole _) w1M (Memref.isWhole_whole _) w2M (Memref.isWhole_whole _) cc0_scratch8 cc0_scratch9 cc0_scratch10

/-- The semaphores of the local copies: slot, then which of the two weight arrays. -/
abbrev loc00 : DmaSems sig S_ := (cc0_scratch10.slice (Rect.unit (s := S2x2) ![0, 0] S1x1.size inb_S2x2_S1x1_0_0)).squeeze S_ squeezes_S1x1_S_
abbrev loc01 : DmaSems sig S_ := (cc0_scratch10.slice (Rect.unit (s := S2x2) ![0, 1] S1x1.size inb_S2x2_S1x1_0_1)).squeeze S_ squeezes_S1x1_S_
abbrev loc10 : DmaSems sig S_ := (cc0_scratch10.slice (Rect.unit (s := S2x2) ![1, 0] S1x1.size inb_S2x2_S1x1_1_0)).squeeze S_ squeezes_S1x1_S_
abbrev loc11 : DmaSems sig S_ := (cc0_scratch10.slice (Rect.unit (s := S2x2) ![1, 1] S1x1.size inb_S2x2_S1x1_1_1)).squeeze S_ squeezes_S1x1_S_

/-- A copy cell's state: nothing in flight, or chunk `k` in flight. -/
def Cell (st : Memref sig .tc .vmem S1x1024x1024 .f32) (b : Ref sig .tc) (q : DmaSem sig) (h : PosShare TreeShare)
    (V : Buf (Elt F) ((c : Thread nD τ).loc b)) (w : ℕ → S1x1024x1024.Idx → Elt F .f32) : Option ℕ → sProp 𝕄
  | none => Idle c st b q h V
  | some k => Fly c st b q h V (w k)

abbrev st10 : Memref sig .tc .vmem S1x1024x1024 .f32 := slotAt w1M ![0, 0, 0] inb_S2x1024x1024_S1x1024x1024_0_0_0
abbrev st11 : Memref sig .tc .vmem S1x1024x1024 .f32 := slotAt w1M ![1, 0, 0] inb_S2x1024x1024_S1x1024x1024_1_0_0
abbrev st20 : Memref sig .tc .vmem S1x1024x1024 .f32 := slotAt w2M ![0, 0, 0] inb_S2x1024x1024_S1x1024x1024_0_0_0
abbrev st21 : Memref sig .tc .vmem S1x1024x1024 .f32 := slotAt w2M ![1, 0, 0] inb_S2x1024x1024_S1x1024x1024_1_0_0

/-- The four copy cells: first weights' slots 0 and 1, second weights' slots 0 and 1. -/
abbrev C10 (o : Option ℕ) : sProp 𝕄 := Cell c st10 main_arg2 loc00.sem fullShare.left (m ((c : Thread nD τ).loc main_arg2)) (w1c m c) o
abbrev C11 (o : Option ℕ) : sProp 𝕄 := Cell c st11 main_arg2 loc10.sem fullShare.right (m ((c : Thread nD τ).loc main_arg2)) (w1c m c) o
abbrev C20 (o : Option ℕ) : sProp 𝕄 := Cell c st20 main_arg3 loc01.sem fullShare.left (m ((c : Thread nD τ).loc main_arg3)) (w2c m c) o
abbrev C21 (o : Option ℕ) : sProp 𝕄 := Cell c st21 main_arg3 loc11.sem fullShare.right (m ((c : Thread nD τ).loc main_arg3)) (w2c m c) o

/-- The two partial sums' buffer, with the contents `f`. -/
abbrev paPts (f : Buf (Elt F) ((c : Thread nD τ).loc cc0_scratch3)) : sProp 𝕄 := (c : Thread nD τ).loc cc0_scratch3 ↦{fullShare} f

/-- The window of the first weights at the offsets `off`. -/
abbrev src1 (off : Fin 3 → Nat) (inb : ∀ a, off a + S1x1024x1024.size a ≤ S4x1024x2048.size a) : Memref sig .tc .hbm S1x1024x1024 .f32 :=
  a2M.slice (Rect.unit (s := S4x1024x2048) off S1x1024x1024.size inb) (fun _ => rfl)
/-- The window of the second weights at the offsets `off`. -/
abbrev src2 (off : Fin 3 → Nat) (inb : ∀ a, off a + S1x1024x1024.size a ≤ S4x2048x1024.size a) : Memref sig .tc .hbm S1x1024x1024 .f32 :=
  a3M.slice (Rect.unit (s := S4x2048x1024) off S1x1024x1024.size inb) (fun _ => rfl)

/-- The window of chunk `k` reads chunk `k`. -/
theorem read_src1 (k : ℕ) (hk : k < 8) (off : Fin 3 → Nat) (inb) (ho : off = ![k / 2, 0, 1024 * (k % 2)]) :
    (src1 off inb).view.read (Elt F) (m ((c : Thread nD τ).loc main_arg2)) = w1c m c k := by
  subst ho
  funext j
  show m ((c : Thread nD τ).loc main_arg2) ((Rect.unit (s := S4x1024x2048) _ S1x1024x1024.size inb).emb j) = m ((c : Thread nD τ).loc main_arg2) _
  congr 1
  have h0 : (j 0).val < 1 := (j 0).isLt
  funext a
  apply Fin.ext
  match a with
  | ⟨0, _⟩ => show k / 2 + 1 * (j 0).val = k / 2 % 4; omega
  | ⟨1, _⟩ => show 0 + 1 * (j 1).val = (j 1).val; omega
  | ⟨2, _⟩ => show 1024 * (k % 2) + 1 * (j 2).val = 1024 * (k % 2) + (j 2).val; omega

theorem read_src2 (k : ℕ) (hk : k < 8) (off : Fin 3 → Nat) (inb) (ho : off = ![k / 2, 1024 * (k % 2), 0]) :
    (src2 off inb).view.read (Elt F) (m ((c : Thread nD τ).loc main_arg3)) = w2c m c k := by
  subst ho
  funext j
  show m ((c : Thread nD τ).loc main_arg3) ((Rect.unit (s := S4x2048x1024) _ S1x1024x1024.size inb).emb j) = m ((c : Thread nD τ).loc main_arg3) _
  congr 1
  have h0 : (j 0).val < 1 := (j 0).isLt
  funext a
  apply Fin.ext
  match a with
  | ⟨0, _⟩ => show k / 2 + 1 * (j 0).val = k / 2 % 4; omega
  | ⟨1, _⟩ => show 1024 * (k % 2) + 1 * (j 1).val = 1024 * (k % 2) + (j 1).val; omega
  | ⟨2, _⟩ => show 0 + 1 * (j 2).val = (j 2).val; omega

/-- The copy of chunk `k` of the first weights starts. -/
theorem wp_start1 (k : ℕ) (hk : k < 8) (st : Memref sig .tc .vmem S1x1024x1024 .f32) (q : DmaSem sig) (h : PosShare TreeShare)
    {off : Fin 3 → Nat} {inb : ∀ a, off a + S1x1024x1024.size a ≤ S4x1024x2048.size a} (ho : off = ![k / 2, 0, 1024 * (k % 2)])
    {hsrc : (sqz (src1 off inb)).view.WordExact} {hdst : (sqz st).view.WordExact}
    {hsem : DmaTarget.Typed .hbm (.dma q) (DmaTarget.here (nD := nD) (p := (Proc.tc : Proc τ)) (sqz st))}
    {α : Type} {Q : α → sProp 𝕄} {kk : PUnit → Prog (TpuEff nD τ sig (Elt F) Λ₀ .tc) α} :
    Cell c st main_arg2 q h (m ((c : Thread nD τ).loc main_arg2)) (w1c m c) none
      ⊢ iprop((Cell c st main_arg2 q h (m ((c : Thread nD τ).loc main_arg2)) (w1c m c) (some k)
          -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma (sqz (src1 off inb)) (.here (sqz st)) (.dma q) hsrc hdst hsem) kk) Q) :=
  wp_start c st q h (src1 off inb) (w1c m c k) (m ((c : Thread nD τ).loc main_arg2)) (read_src1 m c k hk off inb ho)

/-- The copy of chunk `k` of the second weights starts. -/
theorem wp_start2 (k : ℕ) (hk : k < 8) (st : Memref sig .tc .vmem S1x1024x1024 .f32) (q : DmaSem sig) (h : PosShare TreeShare)
    {off : Fin 3 → Nat} {inb : ∀ a, off a + S1x1024x1024.size a ≤ S4x2048x1024.size a} (ho : off = ![k / 2, 1024 * (k % 2), 0])
    {hsrc : (sqz (src2 off inb)).view.WordExact} {hdst : (sqz st).view.WordExact}
    {hsem : DmaTarget.Typed .hbm (.dma q) (DmaTarget.here (nD := nD) (p := (Proc.tc : Proc τ)) (sqz st))}
    {α : Type} {Q : α → sProp 𝕄} {kk : PUnit → Prog (TpuEff nD τ sig (Elt F) Λ₀ .tc) α} :
    Cell c st main_arg3 q h (m ((c : Thread nD τ).loc main_arg3)) (w2c m c) none
      ⊢ iprop((Cell c st main_arg3 q h (m ((c : Thread nD τ).loc main_arg3)) (w2c m c) (some k)
          -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma (sqz (src2 off inb)) (.here (sqz st)) (.dma q) hsrc hdst hsem) kk) Q) :=
  wp_start c st q h (src2 off inb) (w2c m c k) (m ((c : Thread nD τ).loc main_arg3)) (read_src2 m c k hk off inb ho)

/-- The wait for the copy in flight on a cell and the load of its slot. -/
theorem wp_take (k : ℕ) (b : Ref sig .tc) (q : DmaSem sig) (h : PosShare TreeShare) (V : Buf (Elt F) ((c : Thread nD τ).loc b)) (w : ℕ → S1x1024x1024.Idx → Elt F .f32)
    (M : Memref sig .tc .vmem S2x1024x1024 .f32) (off : Fin 3 → Nat)
    (inb : ∀ a, off a + S1x1024x1024.size a ≤ S2x1024x1024.size a) (hk : kind (.dma q) = none)
    {sp' : Space} {s' : Shape} {e' : EltTy} {srcw : Memref sig .tc sp' s' e'} {hsrc : srcw.view.WordExact} {hdst : (sqz (slotAt M off inb)).view.WordExact}
    {hl : M.view.LoadsAt (Rect.unit (s := S2x1024x1024) off S1x1024x1024.size inb).toLoadRect}
    {α : Type} {Q : α → sProp 𝕄} {kk : (S1x1024x1024.Idx → Elt F .f32) → Prog (TpuEff nD τ sig (Elt F) Λ₀ .tc) α} :
    iprop(Cell c (slotAt M off inb) b q h V w (some k) ∗ owesE c [8] ∗ levAts L lv)
      ⊢ iprop(((Cell c (slotAt M off inb) b q h V w none ∗ owesE c [8]) -∗ wp frame (wpE (defs₀ (F := F)) 𝒱₀ (c : Thread nD τ) none) Set.univ (kk (w k)) Q)
        -∗ wp frame (wpE (defs₀ (F := F)) 𝒱₀ (c : Thread nD τ) none) Set.univ
            (.op (.waitDma2 q srcw (sqz (slotAt M off inb)) hsrc hdst) fun _ =>
              .op (.load M (Rect.unit (s := S2x1024x1024) off S1x1024x1024.size inb).toLoadRect hl) kk) Q) :=
  wp_waitload c b q h V M off inb (w k) hk

/-! ## The parts -/

section Eqs

theorem acc1 : k0_pay22 (w8 m ρ c) iota8 (accC m ρ c 0) (Scalar.addi (Scalar.muli (v2w c) 4#32) 0#32) (k0_pay21 (x2 m ρ c) (w1c m c 0)) (w2c m c 0) = (accC m ρ c 1) := rfl
theorem acc2 : k0_pay23 (x2 m ρ c) (w8 m ρ c) iota8 (accC m ρ c 1) (Scalar.addi (Scalar.muli (v2w c) 4#32) 0#32) (w1c m c 1) (w2c m c 1) = (accC m ρ c 2) := rfl
theorem acc3 : k0_pay25 (w8 m ρ c) iota8 (accC m ρ c 2) (Scalar.addi (Scalar.muli (v2w c) 4#32) 1#32) (k0_pay24 (x2 m ρ c) (w1c m c 2)) (w2c m c 2) = (accC m ρ c 3) := rfl
theorem acc4 : k0_pay28 (accC m ρ c 3) (k0_pay26 (x2 m ρ c) (w1c m c 3) (w2c m c 3)) (k0_pay27 (v2w c) (w8 m ρ c) iota8) = (accC m ρ c 4) := rfl
theorem acc5 : k0_pay30 (x2 m ρ c) (w8 m ρ c) iota8 (accC m ρ c 4) (Scalar.addi (Scalar.muli (v2w c) 4#32) 2#32) (k0_pay29 (w1c m c 4)) (w2c m c 4) = (accC m ρ c 5) := rfl
theorem acc6 : k0_pay32 (w8 m ρ c) iota8 (accC m ρ c 5) (Scalar.addi (Scalar.muli (v2w c) 4#32) 2#32) (k0_pay31 (x2 m ρ c) (w1c m c 5)) (w2c m c 5) = (accC m ρ c 6) := rfl
theorem acc7 : k0_pay33 (x2 m ρ c) (w8 m ρ c) iota8 (accC m ρ c 6) (Scalar.addi (Scalar.muli (v2w c) 4#32) 3#32) (w1c m c 6) (w2c m c 6) = (accC m ρ c 7) := rfl
theorem acc8 : k0_pay34 (x2 m ρ c) (w8 m ρ c) iota8 (accC m ρ c 7) (Scalar.addi (Scalar.muli (v2w c) 4#32) 3#32) (w1c m c 7) (w2c m c 7) = (accC m ρ c 8) := rfl
theorem acc8s : k0_pay35 (x2 m ρ c) (w8 m ρ c) iota8 (accC m ρ c 7) (Scalar.addi (Scalar.muli (v2w c) 4#32) 3#32) (w1c m c 7) (w2c m c 7)
    = extractStridedSlice S512x1024 ![0, 0] (accC m ρ c 8) slices_S1024x1024_o0_0_S512x1024 := rfl

end Eqs

section Parts

/-- Part 7: the second weights' chunk 1 starts, chunk 0 of the first weights is taken. -/
theorem part7 (Q : _ → sProp 𝕄) :
    iprop((C21 m c none ∗ C10 m c (some 0) ∗ owesE c [8] ∗ levAts L lv)
      ∗ ((C21 m c (some 1) ∗ C10 m c none ∗ owesE c [8]) -∗ Q ⟨Scalar.addi (Scalar.muli (v2w c) 4#32) 0#32, k0_pay21 (x2 m ρ c) (w1c m c 0)⟩))
      ⊢ wp frame (wpE (defs₀ (F := F)) 𝒱₀ (c : Thread nD τ) none) Set.univ (atArgs (k0_part7 (F := F)) (v2w c) (x2 m ρ c)) Q := by
  simp only [atArgs, k0_part7_eq_skeleton]; unfold k0_part7_skel
  simp only [Prog.lift, Prog.bind_op, Prog.bind_ret, Prog.pure_eq_ret]
  iintro ⟨⟨H21, H10, HO, #Hlev⟩, Hk⟩
  iapply (wp_start2 m c 1 (by decide) st21 loc11.sem _ rfl) $$ H21
  iintro H21
  iapply (wp_take c 0 main_arg2 loc00.sem _ _ (w1c m c) w1M _ _ (by decide)) $$ [H10 HO]
  · isplitl [H10]; · iexact H10
    isplitl [HO]; · iexact HO
    iexact Hlev
  iintro ⟨H10, HO⟩
  rw [wp_ret]; imodintro
  iapply Hk
  isplitl [H21]; · iexact H21
  isplitl [H10]; · iexact H10
  iexact HO

/-- Part 8: chunk 0 is added, chunk 2 starts. -/
theorem part8 (Q : _ → sProp 𝕄) :
    iprop((C20 m c (some 0) ∗ C10 m c none ∗ owesE c [8] ∗ levAts L lv)
      ∗ ((C20 m c (some 2) ∗ C10 m c (some 2) ∗ owesE c [8]) -∗ Q ⟨(accC m ρ c 1), Scalar.addi (Scalar.muli (v2w c) 4#32) 0#32⟩))
      ⊢ wp frame (wpE (defs₀ (F := F)) 𝒱₀ (c : Thread nD τ) none) Set.univ (atArgs (k0_part8 (F := F)) (v2w c) (w8 m ρ c) iota8 (accC m ρ c 0) (Scalar.addi (Scalar.muli (v2w c) 4#32) 0#32) (k0_pay21 (x2 m ρ c) (w1c m c 0))) Q := by
  simp only [atArgs, k0_part8_eq_skeleton]; unfold k0_part8_skel
  simp only [Prog.lift, Prog.bind_op, Prog.bind_ret, Prog.pure_eq_ret]
  iintro ⟨⟨H20, H10, HO, #Hlev⟩, Hk⟩
  iapply (wp_take c 0 main_arg3 loc01.sem _ _ (w2c m c) w2M _ _ (by decide)) $$ [H20 HO]
  · isplitl [H20]; · iexact H20
    isplitl [HO]; · iexact HO
    iexact Hlev
  iintro ⟨H20, HO⟩
  iapply (wp_start1 m c 2 (by decide) st10 loc00.sem _ rfl) $$ H10
  iintro H10
  iapply (wp_start2 m c 2 (by decide) st20 loc01.sem _ rfl) $$ H20
  iintro H20
  rw [wp_ret, acc1 m ρ c]; imodintro
  iapply Hk
  isplitl [H20]; · iexact H20
  isplitl [H10]; · iexact H10
  iexact HO

/-- Part 9: chunk 1 is added. -/
theorem part9 (Q : _ → sProp 𝕄) :
    iprop((C11 m c (some 1) ∗ C21 m c (some 1) ∗ owesE c [8] ∗ levAts L lv)
      ∗ ((C11 m c none ∗ C21 m c none ∗ owesE c [8]) -∗ Q (accC m ρ c 2)))
      ⊢ wp frame (wpE (defs₀ (F := F)) 𝒱₀ (c : Thread nD τ) none) Set.univ (atArgs (k0_part9 (F := F)) (x2 m ρ c) (w8 m ρ c) iota8 (accC m ρ c 1) (Scalar.addi (Scalar.muli (v2w c) 4#32) 0#32)) Q := by
  simp only [atArgs, k0_part9_eq_skeleton]; unfold k0_part9_skel
  simp only [Prog.lift, Prog.bind_op, Prog.bind_ret, Prog.pure_eq_ret]
  iintro ⟨⟨H11, H21, HO, #Hlev⟩, Hk⟩
  iapply (wp_take c 1 main_arg2 loc10.sem _ _ (w1c m c) w1M _ _ (by decide)) $$ [H11 HO]
  · isplitl [H11]; · iexact H11
    isplitl [HO]; · iexact HO
    iexact Hlev
  iintro ⟨H11, HO⟩
  iapply (wp_take c 1 main_arg3 loc11.sem _ _ (w2c m c) w2M _ _ (by decide)) $$ [H21 HO]
  · isplitl [H21]; · iexact H21
    isplitl [HO]; · iexact HO
    iexact Hlev
  iintro ⟨H21, HO⟩
  rw [wp_ret, acc2 m ρ c]; imodintro
  iapply Hk
  isplitl [H11]; · iexact H11
  isplitl [H21]; · iexact H21
  iexact HO

/-- Part 10: chunk 3 starts, chunk 2 of the first weights is taken. -/
theorem part10 (Q : _ → sProp 𝕄) :
    iprop((C11 m c none ∗ C21 m c none ∗ C10 m c (some 2) ∗ owesE c [8] ∗ levAts L lv)
      ∗ ((C11 m c (some 3) ∗ C21 m c (some 3) ∗ C10 m c none ∗ owesE c [8]) -∗ Q ⟨Scalar.addi (Scalar.muli (v2w c) 4#32) 1#32, k0_pay24 (x2 m ρ c) (w1c m c 2)⟩))
      ⊢ wp frame (wpE (defs₀ (F := F)) 𝒱₀ (c : Thread nD τ) none) Set.univ (atArgs (k0_part10 (F := F)) (v2w c) (x2 m ρ c)) Q := by
  simp only [atArgs, k0_part10_eq_skeleton]; unfold k0_part10_skel
  simp only [Prog.lift, Prog.bind_op, Prog.bind_ret, Prog.pure_eq_ret]
  iintro ⟨⟨H11, H21, H10, HO, #Hlev⟩, Hk⟩
  iapply (wp_start1 m c 3 (by decide) st11 loc10.sem _ rfl) $$ H11
  iintro H11
  iapply (wp_start2 m c 3 (by decide) st21 loc11.sem _ rfl) $$ H21
  iintro H21
  iapply (wp_take c 2 main_arg2 loc00.sem _ _ (w1c m c) w1M _ _ (by decide)) $$ [H10 HO]
  · isplitl [H10]; · iexact H10
    isplitl [HO]; · iexact HO
    iexact Hlev
  iintro ⟨H10, HO⟩
  rw [wp_ret]; imodintro
  iapply Hk
  isplitl [H11]; · iexact H11
  isplitl [H21]; · iexact H21
  isplitl [H10]; · iexact H10
  iexact HO

/-- Part 11: chunk 2 is added, chunk 4 starts. -/
theorem part11 (Q : _ → sProp 𝕄) :
    iprop((C20 m c (some 2) ∗ C10 m c none ∗ owesE c [8] ∗ levAts L lv)
      ∗ ((C20 m c (some 4) ∗ C10 m c (some 4) ∗ owesE c [8]) -∗ Q (accC m ρ c 3)))
      ⊢ wp frame (wpE (defs₀ (F := F)) 𝒱₀ (c : Thread nD τ) none) Set.univ (atArgs (k0_part11 (F := F)) (w8 m ρ c) iota8 (accC m ρ c 2) (Scalar.addi (Scalar.muli (v2w c) 4#32) 1#32) (k0_pay24 (x2 m ρ c) (w1c m c 2))) Q := by
  simp only [atArgs, k0_part11_eq_skeleton]; unfold k0_part11_skel
  simp only [Prog.lift, Prog.bind_op, Prog.bind_ret, Prog.pure_eq_ret]
  iintro ⟨⟨H20, H10, HO, #Hlev⟩, Hk⟩
  iapply (wp_take c 2 main_arg3 loc01.sem _ _ (w2c m c) w2M _ _ (by decide)) $$ [H20 HO]
  · isplitl [H20]; · iexact H20
    isplitl [HO]; · iexact HO
    iexact Hlev
  iintro ⟨H20, HO⟩
  iapply (wp_start1 m c 4 (by decide) st10 loc00.sem _ rfl) $$ H10
  iintro H10
  iapply (wp_start2 m c 4 (by decide) st20 loc01.sem _ rfl) $$ H20
  iintro H20
  rw [wp_ret, acc3 m ρ c]; imodintro
  iapply Hk
  isplitl [H20]; · iexact H20
  isplitl [H10]; · iexact H10
  iexact HO

/-- Part 12: chunk 3 is taken. -/
theorem part12 (Q : _ → sProp 𝕄) :
    iprop((C11 m c (some 3) ∗ C21 m c (some 3) ∗ owesE c [8] ∗ levAts L lv)
      ∗ ((C11 m c none ∗ C21 m c none ∗ owesE c [8]) -∗ Q ⟨k0_pay26 (x2 m ρ c) (w1c m c 3) (w2c m c 3), k0_pay27 (v2w c) (w8 m ρ c) iota8⟩))
      ⊢ wp frame (wpE (defs₀ (F := F)) 𝒱₀ (c : Thread nD τ) none) Set.univ (atArgs (k0_part12 (F := F)) (v2w c) (x2 m ρ c) (w8 m ρ c) iota8) Q := by
  simp only [atArgs, k0_part12_eq_skeleton]; unfold k0_part12_skel
  simp only [Prog.lift, Prog.bind_op, Prog.bind_ret, Prog.pure_eq_ret]
  iintro ⟨⟨H11, H21, HO, #Hlev⟩, Hk⟩
  iapply (wp_take c 3 main_arg2 loc10.sem _ _ (w1c m c) w1M _ _ (by decide)) $$ [H11 HO]
  · isplitl [H11]; · iexact H11
    isplitl [HO]; · iexact HO
    iexact Hlev
  iintro ⟨H11, HO⟩
  iapply (wp_take c 3 main_arg3 loc11.sem _ _ (w2c m c) w2M _ _ (by decide)) $$ [H21 HO]
  · isplitl [H21]; · iexact H21
    isplitl [HO]; · iexact HO
    iexact Hlev
  iintro ⟨H21, HO⟩
  rw [wp_ret]; imodintro
  iapply Hk
  isplitl [H11]; · iexact H11
  isplitl [H21]; · iexact H21
  iexact HO

/-- Part 13: chunk 3 is added, chunk 5 starts, chunk 4 of the first weights is taken. -/
theorem part13 (Q : _ → sProp 𝕄) :
    iprop((C11 m c none ∗ C21 m c none ∗ C10 m c (some 4) ∗ owesE c [8] ∗ levAts L lv)
      ∗ ((C11 m c (some 5) ∗ C21 m c (some 5) ∗ C10 m c none ∗ owesE c [8]) -∗ Q ⟨(accC m ρ c 4), Scalar.addi (Scalar.muli (v2w c) 4#32) 2#32, k0_pay29 (w1c m c 4)⟩))
      ⊢ wp frame (wpE (defs₀ (F := F)) 𝒱₀ (c : Thread nD τ) none) Set.univ (atArgs (k0_part13 (F := F)) (v2w c) (accC m ρ c 3) (k0_pay26 (x2 m ρ c) (w1c m c 3) (w2c m c 3)) (k0_pay27 (v2w c) (w8 m ρ c) iota8)) Q := by
  simp only [atArgs, k0_part13_eq_skeleton]; unfold k0_part13_skel
  simp only [Prog.lift, Prog.bind_op, Prog.bind_ret, Prog.pure_eq_ret]
  iintro ⟨⟨H11, H21, H10, HO, #Hlev⟩, Hk⟩
  iapply (wp_start1 m c 5 (by decide) st11 loc10.sem _ rfl) $$ H11
  iintro H11
  iapply (wp_start2 m c 5 (by decide) st21 loc11.sem _ rfl) $$ H21
  iintro H21
  iapply (wp_take c 4 main_arg2 loc00.sem _ _ (w1c m c) w1M _ _ (by decide)) $$ [H10 HO]
  · isplitl [H10]; · iexact H10
    isplitl [HO]; · iexact HO
    iexact Hlev
  iintro ⟨H10, HO⟩
  rw [wp_ret, acc4 m ρ c]; imodintro
  iapply Hk
  isplitl [H11]; · iexact H11
  isplitl [H21]; · iexact H21
  isplitl [H10]; · iexact H10
  iexact HO

/-- Part 14: chunk 4 is added, chunk 6 of the first weights starts. -/
theorem part14 (Q : _ → sProp 𝕄) :
    iprop((C20 m c (some 4) ∗ C10 m c none ∗ owesE c [8] ∗ levAts L lv)
      ∗ ((C20 m c none ∗ C10 m c (some 6) ∗ owesE c [8]) -∗ Q (accC m ρ c 5)))
      ⊢ wp frame (wpE (defs₀ (F := F)) 𝒱₀ (c : Thread nD τ) none) Set.univ (atArgs (k0_part14 (F := F)) (x2 m ρ c) (w8 m ρ c) iota8 (accC m ρ c 4) (Scalar.addi (Scalar.muli (v2w c) 4#32) 2#32) (k0_pay29 (w1c m c 4))) Q := by
  simp only [atArgs, k0_part14_eq_skeleton]; unfold k0_part14_skel
  simp only [Prog.lift, Prog.bind_op, Prog.bind_ret, Prog.pure_eq_ret]
  iintro ⟨⟨H20, H10, HO, #Hlev⟩, Hk⟩
  iapply (wp_take c 4 main_arg3 loc01.sem _ _ (w2c m c) w2M _ _ (by decide)) $$ [H20 HO]
  · isplitl [H20]; · iexact H20
    isplitl [HO]; · iexact HO
    iexact Hlev
  iintro ⟨H20, HO⟩
  iapply (wp_start1 m c 6 (by decide) st10 loc00.sem _ rfl) $$ H10
  iintro H10
  rw [wp_ret, acc5 m ρ c]; imodintro
  iapply Hk
  isplitl [H20]; · iexact H20
  isplitl [H10]; · iexact H10
  iexact HO

/-- Part 15: chunk 6 of the second weights starts, chunk 5 is taken. -/
theorem part15 (Q : _ → sProp 𝕄) :
    iprop((C20 m c none ∗ C11 m c (some 5) ∗ C21 m c (some 5) ∗ owesE c [8] ∗ levAts L lv)
      ∗ ((C20 m c (some 6) ∗ C11 m c none ∗ C21 m c none ∗ owesE c [8]) -∗ Q ⟨Scalar.addi (Scalar.muli (v2w c) 4#32) 2#32, k0_pay31 (x2 m ρ c) (w1c m c 5), (w2c m c 5)⟩))
      ⊢ wp frame (wpE (defs₀ (F := F)) 𝒱₀ (c : Thread nD τ) none) Set.univ (atArgs (k0_part15 (F := F)) (v2w c) (x2 m ρ c)) Q := by
  simp only [atArgs, k0_part15_eq_skeleton]; unfold k0_part15_skel
  simp only [Prog.lift, Prog.bind_op, Prog.bind_ret, Prog.pure_eq_ret]
  iintro ⟨⟨H20, H11, H21, HO, #Hlev⟩, Hk⟩
  iapply (wp_start2 m c 6 (by decide) st20 loc01.sem _ rfl) $$ H20
  iintro H20
  iapply (wp_take c 5 main_arg2 loc10.sem _ _ (w1c m c) w1M _ _ (by decide)) $$ [H11 HO]
  · isplitl [H11]; · iexact H11
    isplitl [HO]; · iexact HO
    iexact Hlev
  iintro ⟨H11, HO⟩
  iapply (wp_take c 5 main_arg3 loc11.sem _ _ (w2c m c) w2M _ _ (by decide)) $$ [H21 HO]
  · isplitl [H21]; · iexact H21
    isplitl [HO]; · iexact HO
    iexact Hlev
  iintro ⟨H21, HO⟩
  rw [wp_ret]; imodintro
  iapply Hk
  isplitl [H20]; · iexact H20
  isplitl [H11]; · iexact H11
  isplitl [H21]; · iexact H21
  iexact HO

/-- Part 16: chunk 5 is added, chunk 7 starts. -/
theorem part16 (Q : _ → sProp 𝕄) :
    iprop((C11 m c none ∗ C21 m c none)
      ∗ ((C11 m c (some 7) ∗ C21 m c (some 7)) -∗ Q ⟨(accC m ρ c 6), Scalar.addi (Scalar.muli (v2w c) 4#32) 3#32⟩))
      ⊢ wp frame (wpE (defs₀ (F := F)) 𝒱₀ (c : Thread nD τ) none) Set.univ (atArgs (k0_part16 (F := F)) (v2w c) (w8 m ρ c) iota8 (accC m ρ c 5) (Scalar.addi (Scalar.muli (v2w c) 4#32) 2#32) (k0_pay31 (x2 m ρ c) (w1c m c 5)) (w2c m c 5)) Q := by
  simp only [atArgs, k0_part16_eq_skeleton]; unfold k0_part16_skel
  simp only [Prog.lift, Prog.bind_op, Prog.bind_ret, Prog.pure_eq_ret]
  iintro ⟨⟨H11, H21⟩, Hk⟩
  iapply (wp_start1 m c 7 (by decide) st11 loc10.sem _ rfl) $$ H11
  iintro H11
  iapply (wp_start2 m c 7 (by decide) st21 loc11.sem _ rfl) $$ H21
  iintro H21
  rw [wp_ret, acc6 m ρ c]; imodintro
  iapply Hk
  isplitl [H11]; · iexact H11
  iexact H21

/-- Part 17: chunk 6 is added. -/
theorem part17 (Q : _ → sProp 𝕄) :
    iprop((C10 m c (some 6) ∗ C20 m c (some 6) ∗ owesE c [8] ∗ levAts L lv)
      ∗ ((C10 m c none ∗ C20 m c none ∗ owesE c [8]) -∗ Q ⟨(accC m ρ c 7), Scalar.addi (Scalar.muli (v2w c) 4#32) 3#32⟩))
      ⊢ wp frame (wpE (defs₀ (F := F)) 𝒱₀ (c : Thread nD τ) none) Set.univ (atArgs (k0_part17 (F := F)) (v2w c) (x2 m ρ c) (w8 m ρ c) iota8 (accC m ρ c 6) (Scalar.addi (Scalar.muli (v2w c) 4#32) 3#32)) Q := by
  simp only [atArgs, k0_part17_eq_skeleton]; unfold k0_part17_skel
  simp only [Prog.lift, Prog.bind_op, Prog.bind_ret, Prog.pure_eq_ret]
  iintro ⟨⟨H10, H20, HO, #Hlev⟩, Hk⟩
  iapply (wp_take c 6 main_arg2 loc00.sem _ _ (w1c m c) w1M _ _ (by decide)) $$ [H10 HO]
  · isplitl [H10]; · iexact H10
    isplitl [HO]; · iexact HO
    iexact Hlev
  iintro ⟨H10, HO⟩
  iapply (wp_take c 6 main_arg3 loc01.sem _ _ (w2c m c) w2M _ _ (by decide)) $$ [H20 HO]
  · isplitl [H20]; · iexact H20
    isplitl [HO]; · iexact HO
    iexact Hlev
  iintro ⟨H20, HO⟩
  rw [wp_ret, acc7 m ρ c]; imodintro
  iapply Hk
  isplitl [H10]; · iexact H10
  isplitl [H20]; · iexact H20
  iexact HO

/-- Part 18: chunk 7 is added. -/
theorem part18 (fp : Buf (Elt F) ((c : Thread nD τ).loc cc0_scratch3)) (Q : _ → sProp 𝕄) :
    iprop((paPts c fp ∗ C11 m c (some 7) ∗ C21 m c (some 7) ∗ owesE c [8] ∗ levAts L lv)
      ∗ ((paPts c fp ∗ C11 m c none ∗ C21 m c none ∗ owesE c [8]) -∗ Q ⟨(accC m ρ c 8), extractStridedSlice S512x1024 ![0, 0] (accC m ρ c 8) slices_S1024x1024_o0_0_S512x1024, paM.view.readAt (Elt F) (Rect.unit (s := S2x512x1024) ![0, 0, 0] S1x512x1024.size inb_S2x512x1024_S1x512x1024_0_0_0).toLoadRect fp⟩))
      ⊢ wp frame (wpE (defs₀ (F := F)) 𝒱₀ (c : Thread nD τ) none) Set.univ (atArgs (k0_part18 (F := F)) (x2 m ρ c) (w8 m ρ c) iota8 (accC m ρ c 7) (Scalar.addi (Scalar.muli (v2w c) 4#32) 3#32)) Q := by
  simp only [atArgs, k0_part18_eq_skeleton]; unfold k0_part18_skel
  simp only [Prog.lift, Prog.bind_op, Prog.bind_ret, Prog.pure_eq_ret]
  iintro ⟨⟨Hp, H11, H21, HO, #Hlev⟩, Hk⟩
  iapply (wp_take c 7 main_arg2 loc10.sem _ _ (w1c m c) w1M _ _ (by decide)) $$ [H11 HO]
  · isplitl [H11]; · iexact H11
    isplitl [HO]; · iexact HO
    iexact Hlev
  iintro ⟨H11, HO⟩
  iapply (wp_take c 7 main_arg3 loc11.sem _ _ (w2c m c) w2M _ _ (by decide)) $$ [H21 HO]
  · isplitl [H21]; · iexact H21
    isplitl [HO]; · iexact HO
    iexact Hlev
  iintro ⟨H21, HO⟩
  iapply (wp_load 𝒱₀ (c : Thread nD τ) none Set.univ (m := paM) (Finset.subset_univ _)) $$ Hp
  iintro Hp
  rw [wp_ret, acc8 m ρ c, acc8s m ρ c]; imodintro
  iapply Hk
  isplitl [Hp]; · iexact Hp
  isplitl [H11]; · iexact H11
  isplitl [H21]; · iexact H21
  iexact HO

end Parts

end Cert.ExchangeProof

end
-- ==== Proof.Body.lean ====
/-
# `Body`: the exchange's parts of the kernel, run at a symbolic device

The parts before the accumulation (the barrier with the partner, the exchange of the router half, of the tokens and of the
weights) and after it (the exchange of the partial result). Each part is run from the resources it takes to those it leaves.
-/
module

public import proofs.«01_k».proof.Proof.Slots
public import proofs.«01_k».proof.Proof.Chunk

@[expose] public section

set_option maxRecDepth 16384

noncomputable section

namespace Cert.ExchangeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 9 → ℕ) (c : Dev nD)

/-! ## What is known throughout, and the rules over it -/

/-- Every exchange cell's invariant and its first round reached. -/
def records : sProp 𝕄 :=
  iprop((bigSep Finset.univ fun ck : Dev nD × Fin 9 => cellInv ER (exRd m ρ) (K ck) (kcell ck))
    ∗ bigSep Finset.univ fun ck : Dev nD × Fin 9 => reached ER (kcell ck) 0)

instance records_persistent : BI.Persistent (records m ρ K) := by unfold records; infer_instance

theorem inv_at (ck : Dev nD × Fin 9) : records m ρ K ⊢ cellInv ER (exRd m ρ) (K ck) (kcell ck) := by
  refine BI.Entails.trans (?_ : records m ρ K ⊢ bigSep Finset.univ fun ck : Dev nD × Fin 9 => cellInv ER (exRd m ρ) (K ck) (kcell ck)) (bigSep_elim (Finset.mem_univ ck))
  unfold records
  iintro ⟨#H, -⟩
  iexact H

theorem reached_at (ck : Dev nD × Fin 9) : records m ρ K ⊢ reached ER (kcell ck) 0 := by
  refine BI.Entails.trans (?_ : records m ρ K ⊢ bigSep Finset.univ fun ck : Dev nD × Fin 9 => reached ER (kcell ck) 0) (bigSep_elim (Finset.mem_univ ck))
  unfold records
  iintro ⟨-, #H⟩
  iexact H

/-- The records and the levels. -/
def ctx : sProp 𝕄 := iprop(records m ρ K ∗ levAts L lv)
instance ctx_persistent : BI.Persistent (ctx m ρ K) := by unfold ctx; infer_instance

/-- The token of cell `k`'s one duty on device `d`. -/
abbrev tok (d : Dev nD) (k : Fin 9) : sProp 𝕄 := dutyTok ER (kcell (d, k)) 0 ()
/-- A device's position at the start of its cell `k`. -/
abbrev pos (d : Dev nD) (k : Fin 9) : sProp 𝕄 := atPos ER (kcell (d, k)) 0 ∅ 0
/-- The credit of cell `k`. -/
abbrev crd (d : Dev nD) (k : Fin 9) : sProp 𝕄 := cred (tallyAt (kcell (d, k)) () (amt k))
/-- Cell `k`'s counter at zero, the cell closed. -/
abbrev zer (d : Dev nD) (k : Fin 9) : sProp 𝕄 := semVal (kcell (d, k)) 0

/-- The wait on a cell of the exchange, over the records. -/
theorem wp_recv (k : Fin 9) (q : DmaSem sig) (hq : csem k = .dma q) (l : List (Fin 9)) (hl : ∀ j ∈ l, lvK k < lvK j)
    {sp sp' : Space} {s s' : Shape} {e e' : EltTy} {κ' : Kind}
    {srcw : Memref sig .tc sp' s' e'} {dstw : Memref sig κ' sp s e} {hsrc : srcw.view.WordExact} {hdst : dstw.view.WordExact}
    (hN : dstw.view.dmaCredit = amt k)
    {α : Type} {Q : α → sProp 𝕄} {kk : PUnit → Prog (TpuEff nD τ sig (Elt F) Λ₀ .tc) α} :
    iprop(ctx m ρ K ∗ crd c k ∗ owesE c l ∗ pos c k)
      ⊢ iprop(((owesE c l ∗ zer c k ∗ pay m ρ k c) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 q srcw dstw hsrc hdst) kk) Q) := by
  unfold ctx
  iintro ⟨⟨#HR, #Hlev⟩, Hc, HO, Ha⟩
  iapply (wp_waitK m ρ K c k q hq l hl hN)
  isplitr; · iapply (inv_at m ρ K (c, k)); iexact HR
  isplitl [Hc]; · iexact Hc
  isplitl [HO]; · iexact HO
  isplitr; · iexact Hlev
  iexact Ha

/-- The transfer of a buffer to the partner, over the records. -/
theorem wp_xfer (k₁ k₂ : Fin 9) (qs qr : DmaSem sig) (hs : csem k₁ = .dma qs) (hr : csem k₂ = .dma qr) (n : Dev nD) (hn : n = peer c) (l : List (Fin 9))
    {sp sp' : Space} {s : Shape} {e : EltTy} {src : Memref sig .tc sp s e} {dst : Memref sig .tc sp' s e}
    {hsc : (dst : Memref sig (Dev.tc n : Thread nD τ).2.kind sp' s e).view.ref.isScScratch = false}
    {hsrc : src.view.WordExact} {hdst : dst.view.WordExact}
    {hsem : DmaTarget.Typed sp (.dma qr) (.remote (Dev.tc n : Thread nD τ) dst (.dma qs) hsc)}
    {α : Type} {Q : α → sProp 𝕄} {kk : PUnit → Prog (TpuEff nD τ sig (Elt F) Λ₀ .tc) α}
    (fs : Buf (Elt F) (src.view.loc (c : Thread nD τ))) (fd : Buf (Elt F) (dst.view.loc (peer c : Thread nD τ)))
    (hN : dst.view.dmaCredit = amt k₁) (h12 : amt k₁ = amt k₂)
    (hp₁ : (src.view.loc (c : Thread nD τ) ↦[src.view.set]{fullShare} fs : sProp 𝕄) ⊢ pay m ρ k₁ c)
    (hp₂ : (dst.view.loc (peer c : Thread nD τ) ↦[dst.view.set]{fullShare} (dst.view.write (Elt F) fd (src.view.read (Elt F) fs) Finset.univ) : sProp 𝕄)
      ⊢ pay m ρ k₂ (peer c)) :
    iprop(ctx m ρ K ∗ (src.view.loc (c : Thread nD τ) ↦[src.view.set]{fullShare} fs) ∗ (dst.view.loc (peer c : Thread nD τ) ↦[dst.view.set]{fullShare} fd)
        ∗ owesE c (k₂ :: l) ∗ tok c k₁ ∗ tok (peer c) k₂)
      ⊢ iprop(((crd c k₁ ∗ owesE c l) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc n : Thread nD τ) dst (.dma qs) hsc) (.dma qr) hsrc hdst hsem) kk) Q) := by
  unfold ctx
  iintro ⟨⟨#HR, #Hlev⟩, Hs, Hd, HO, H1, H2⟩
  iapply (wp_sendK m ρ K c k₁ k₂ qs qr hs hr n hn l fs fd hN h12 hp₁ hp₂)
  isplitr; · iapply (inv_at m ρ K (c, k₁)); iexact HR
  isplitr; · iapply (inv_at m ρ K (peer c, k₂)); iexact HR
  isplitl [Hs]; · iexact Hs
  isplitl [Hd]; · iexact Hd
  isplitl [HO]; · iexact HO
  isplitl [H1]; · iexact H1
  isplitr; · iapply (reached_at m ρ K (c, k₁)); iexact HR
  isplitl [H2]; · iexact H2
  iapply (reached_at m ρ K (peer c, k₂)); iexact HR

/-! ## Whole-buffer loads and stores -/

theorem hz2 : (![0, 0] : Fin 2 → Nat) = fun _ => 0 := funext fun a => by fin_cases a <;> rfl

abbrev xb : sProp 𝕄 := (c : Thread nD τ).loc cc0_stg0_0 ↦{fullShare} xstg m ρ c

theorem read_x : xM.view.readAt (Elt F) (Rect.unit (s := S512x1024) ![0, 0] S512x1024.size inb_S512x1024_S512x1024_0_0).toLoadRect (xstg m ρ c) = xstg m ρ c :=
  Memref.readAt_unit_zero (Elt F) cc0_stg0_0 hz2 _ _
theorem read_g : gM.view.readAt (Elt F) (Rect.unit (s := S1024x4) ![0, 0] S1024x4.size inb_S1024x4_S1024x4_0_0).toLoadRect (rstg m ρ c) = rstg m ρ c :=
  Memref.readAt_unit_zero (Elt F) cc0_stg1_0 hz2 _ _
theorem read_r : rM.view.readAt (Elt F) (Rect.unit (s := S1024x4) ![0, 0] S1024x4.size inb_S1024x4_S1024x4_0_0).toLoadRect (rstg m ρ (peer c)) = rstg m ρ (peer c) :=
  Memref.readAt_unit_zero (Elt F) cc0_scratch1 hz2 _ _

theorem router_landed (fd : Buf (Elt F) (rM.view.loc (peer c : Thread nD τ))) :
    (rM.view.loc (peer c : Thread nD τ) ↦[rM.view.set]{fullShare} (rM.view.write (Elt F) fd (gM.view.read (Elt F) (rstg m ρ c)) Finset.univ) : sProp 𝕄)
      ⊢ pay m ρ 5 (peer c) := by
  show _ ⊢ rPts (peer c) (rstg m ρ (peer (peer c)))
  rw [peer_peer]
  unfold rPts
  refine Entails.of_eq (congrArg (fun f => (rM.view.loc (peer c : Thread nD τ) ↦[rM.view.set]{fullShare} f : sProp 𝕄)) ?_)
  exact View.write_whole_univ cc0_scratch1 fd _

theorem tokens_landed (fd : Buf (Elt F) ((xSlot c).view.loc (peer c : Thread nD τ))) :
    ((xSlot c).view.loc (peer c : Thread nD τ) ↦[(xSlot c).view.set]{fullShare}
        ((xSlot c).view.write (Elt F) fd ((xSlot c).view.read (Elt F) (xallC m ρ c)) Finset.univ) : sProp 𝕄)
      ⊢ pay m ρ 6 (peer c) := by
  show _ ⊢ xPts (peer (peer c)) (peer c) (xallC m ρ (peer c))
  rw [peer_peer, xallC_peer]
  unfold xPts
  exact Entails.of_eq (pointsTo_congr fun i hi => copied_at (xSlot c).view fd _ i hi)

theorem weights_landed (fd : Buf (Elt F) ((wSlot c).view.loc (peer c : Thread nD τ))) :
    ((wSlot c).view.loc (peer c : Thread nD τ) ↦[(wSlot c).view.set]{fullShare}
        ((wSlot c).view.write (Elt F) fd ((wSlot c).view.read (Elt F) (wtC m ρ c)) Finset.univ) : sProp 𝕄)
      ⊢ pay m ρ 7 (peer c) := by
  show _ ⊢ wPts (peer (peer c)) (peer c) (wtC m ρ (peer c))
  rw [peer_peer, wtC_peer]
  unfold wPts
  exact Entails.of_eq (pointsTo_congr fun i hi => copied_at (wSlot c).view fd _ i hi)

theorem partial_landed (fd : Buf (Elt F) (pM.view.loc (peer c : Thread nD τ))) :
    (pM.view.loc (peer c : Thread nD τ) ↦[pM.view.set]{fullShare} (pM.view.write (Elt F) fd (sM.view.read (Elt F) (psend m ρ c)) Finset.univ) : sProp 𝕄)
      ⊢ pay m ρ 8 (peer c) := by
  show _ ⊢ pPts (peer c) (psend m ρ (peer (peer c)))
  rw [peer_peer]
  unfold pPts
  refine Entails.of_eq (congrArg (fun f => (pM.view.loc (peer c : Thread nD τ) ↦[pM.view.set]{fullShare} f : sProp 𝕄)) ?_)
  exact View.write_whole_univ cc0_scratch5 fd _

theorem xStored_pts (f : Buf (Elt F) ((c : Thread nD τ).loc cc0_scratch0)) (w : FVec F S1x512x1024 .bf16) (hw : w = xpay m ρ c) :
    ((xaM.access (xRect (k0_off1 c) (k0_off1_inb c))).loc (c : Thread nD τ) ↦[(xSlot c).view.set]{fullShare}
        ((xaM.access (xRect (k0_off1 c) (k0_off1_inb c))).write (Elt F) f w Finset.univ) : sProp 𝕄)
      ⊢ ((xSlot c).view.loc (c : Thread nD τ) ↦[(xSlot c).view.set]{fullShare} xallC m ρ c) :=
  by subst hw; exact Entails.of_eq (pointsTo_congr fun i hi => xStored m ρ c f (k0_off1_inb c) i hi)

theorem tokens_kept : ((xSlot c).view.loc (c : Thread nD τ) ↦[(xSlot c).view.set]{fullShare} xallC m ρ c : sProp 𝕄) ⊢ pay m ρ 2 c := Entails.refl _

theorem wStored_pts (f : Buf (Elt F) ((c : Thread nD τ).loc cc0_scratch2)) (w : FVec F S1x512x8 .f32) (hw : w = wpay m ρ c) :
    ((wtM.access (wRect (k0_off3 c) (k0_off3_inb c))).loc (c : Thread nD τ) ↦[(wSlot c).view.set]{fullShare}
        ((wtM.access (wRect (k0_off3 c) (k0_off3_inb c))).write (Elt F) f w Finset.univ) : sProp 𝕄)
      ⊢ ((wSlot c).view.loc (c : Thread nD τ) ↦[(wSlot c).view.set]{fullShare} wtC m ρ c) :=
  by subst hw; exact Entails.of_eq (pointsTo_congr fun i hi => wStored m ρ c f (k0_off3_inb c) i hi)

theorem weights_kept : ((wSlot c).view.loc (c : Thread nD τ) ↦[(wSlot c).view.set]{fullShare} wtC m ρ c : sProp 𝕄) ⊢ pay m ρ 3 c := Entails.refl _

/-! ## The parts -/

variable (v5 v8 v9 : BitVec 32)

theorem part1 (fr : Buf (Elt F) (rM.view.loc (c : Thread nD τ))) (fx : Buf (Elt F) ((xSlot (peer c)).view.loc (c : Thread nD τ)))
    (fw : Buf (Elt F) ((wSlot (peer c)).view.loc (c : Thread nD τ))) (fp : Buf (Elt F) (pM.view.loc (c : Thread nD τ))) (Q : _ → sProp 𝕄) :
    iprop((ctx m ρ K ∗ owesE c [0, 5, 6, 7, 8] ∗ tok (peer c) 0 ∗ crd c 0 ∗ pos c 0 ∗ rPts c fr ∗ xPts (peer c) c fx ∗ wPts (peer c) c fw ∗ pPts c fp
        ∗ gPts c (rstg m ρ c) ∗ tok c 1 ∗ tok (peer c) 5 ∗ xb m ρ c)
      ∗ ((owesE c [6, 7, 8] ∗ zer c 0 ∗ crd c 1 ∗ (∃ f, xPts c (peer c) f) ∗ (∃ f, wPts c (peer c) f) ∗ (∃ f, pPts (peer c) f) ∗ xb m ρ c)
        -∗ Q ⟨c, v2w c, Scalar.remsi (Scalar.divsi (Dev.word c) 4#32) 2#32, Scalar.remsi (Scalar.divsi (Dev.word c) 1#32) 4#32, Scalar.subi 1#32 (v2w c), k0_pay2 (xstg m ρ c)⟩))
      ⊢ wp frame (wpE (defs₀ (F := F)) 𝒱₀ (c : Thread nD τ) none) Set.univ (atArgs (k0_part1 (F := F))) Q := by
  simp only [atArgs, k0_part1_eq_skeleton]; unfold k0_part1_skel
  simp only [semSignalWord, semWaitWord, Prog.lift, Prog.bind_op, Prog.bind_ret, Prog.pure_eq_ret, wp_deviceId]
  iintro ⟨⟨#HC, HO, Ht0, Hc0, Ha0, Hr, Hx, Hw, Hp, Hg, Ht1, Ht5, Hxb⟩, Hk⟩
  iapply (wp_sigBar m ρ K c _ (dev1_eq c) [5, 6, 7, 8] _ rfl) $$ [HO Ht0 Hr Hx Hw Hp]
  · isplitr; · (iapply (inv_at m ρ K (peer c, 0)); unfold ctx; icases HC with ⟨H, -⟩; iexact H)
    isplitl [HO]; · iexact HO
    isplitl [Ht0]; · iexact Ht0
    isplitl [Hr Hx Hw Hp]
    · iapply (show barPay (peer c) ⊢ pay m ρ 0 (peer c) from Entails.refl _)
      unfold barPay; rw [peer_peer]
      isplitl [Hr]; · iexists fr; iexact Hr
      isplitl [Hx]; · iexists fx; iexact Hx
      isplitl [Hw]; · iexists fw; iexact Hw
      iexists fp; iexact Hp
    iapply (reached_at m ρ K (peer c, 0)); unfold ctx; icases HC with ⟨H, -⟩; iexact H
  iintro HO
  iapply (wp_waitBar m ρ K c [5, 6, 7, 8] (by decide) _ rfl) $$ [HO Hc0 Ha0]
  · isplitr; · (iapply (inv_at m ρ K (c, 0)); unfold ctx; icases HC with ⟨H, -⟩; iexact H)
    isplitl [Hc0]; · iexact Hc0
    isplitl [HO]; · iexact HO
    isplitr; · (unfold ctx; icases HC with ⟨-, H⟩; iexact H)
    iexact Ha0
  iintro ⟨HO, Hz0, Hpay⟩
  ihave Hpay' := (show pay m ρ 0 c ⊢ barPay c from Entails.refl _) $$ Hpay
  unfold barPay
  icases Hpay' with ⟨⟨%fr', Hr⟩, Hx, Hw, Hp⟩
  iapply (wp_xfer m ρ K c 1 5 send0.sem recv0.sem rfl rfl _ (dev2_eq c) [6, 7, 8] (src := gM) (dst := rM) (rstg m ρ c) fr' rfl rfl
    (Entails.refl _) (router_landed m ρ c fr')) $$ [Hg Hr HO Ht1 Ht5]
  · isplitr; · iexact HC
    isplitl [Hg]; · unfold gPts; iexact Hg
    isplitl [Hr]; · unfold rPts; iexact Hr
    isplitl [HO]; · iexact HO
    isplitl [Ht1] <;> iassumption
  iintro ⟨Hc1, HO⟩
  iapply (wp_load 𝒱₀ (c : Thread nD τ) none Set.univ (m := xM) (Finset.subset_univ _)) $$ Hxb; iintro Hxb
  rw [read_x, wp_ret, ← show v2w c = Scalar.remsi (Scalar.divsi (Dev.word c) 8#32) 2#32 from rfl]; imodintro
  iapply Hk
  isplitl [HO]; · iexact HO
  isplitl [Hz0]; · iexact Hz0
  isplitl [Hc1]; · iexact Hc1
  isplitl [Hx]; · iexact Hx
  isplitl [Hw]; · iexact Hw
  isplitl [Hp] <;> iassumption

theorem part2 (fx : Buf (Elt F) ((xSlot c).view.loc (c : Thread nD τ))) (fxp : Buf (Elt F) ((xSlot c).view.loc (peer c : Thread nD τ))) (Q : _ → sProp 𝕄) :
    iprop((ctx m ρ K ∗ owesE c [6, 7, 8] ∗ xPts c c fx ∗ xPts c (peer c) fxp ∗ tok c 2 ∗ tok (peer c) 6 ∗ crd c 1 ∗ pos c 1 ∗ crd c 5 ∗ pos c 5 ∗ xb m ρ c)
      ∗ ((owesE c [7, 8] ∗ crd c 2 ∗ zer c 1 ∗ gPts c (rstg m ρ c) ∗ zer c 5 ∗ rPts c (rstg m ρ (peer c)) ∗ xb m ρ c)
        -∗ Q ⟨k0_pay4 (xstg m ρ c), k0_pay5 (xstg m ρ c) (rstg m ρ c)⟩))
      ⊢ wp frame (wpE (defs₀ (F := F)) 𝒱₀ (c : Thread nD τ) none) Set.univ (atArgs (k0_part2 (F := F)) c v5 v8 v9 (k0_pay2 (xstg m ρ c))) Q := by
  simp only [atArgs, k0_part2_eq_skeleton]; unfold k0_part2_skel
  simp only [Prog.lift, Prog.bind_op, Prog.bind_ret, Prog.pure_eq_ret]
  iintro ⟨⟨#HC, HO, Hx, Hxp, Ht2, Ht6, Hc1, Ha1, Hc5, Ha5, Hxb⟩, Hk⟩
  unfold xPts
  iapply (wp_load 𝒱₀ (c : Thread nD τ) none Set.univ (m := xaM) (r := (xRect (k0_off1 c) (k0_off1_inb c)).toLoadRect) (xLoad_set c _)) $$ Hx
  iintro Hx
  iapply (wp_store 𝒱₀ (c : Thread nD τ) none Set.univ (m := xaM) (r := xRect (k0_off1 c) (k0_off1_inb c)) (Mk := Finset.univ)
    (le_of_eq (xAccess_set c _))) $$ Hx
  iintro Hx
  ihave Hx := (xStored_pts m ρ c fx (k0_pay3 (k0_pay2 (xstg m ρ c))) rfl) $$ Hx
  iapply (wp_xfer m ρ K c 2 6 send1.sem recv1.sem rfl rfl _ (dev3_eq c) [7, 8] (src := xSlot c) (dst := xSlot c) (xallC m ρ c) fxp rfl rfl
    (tokens_kept m ρ c) (tokens_landed m ρ c fxp)) $$ [Hx Hxp HO Ht2 Ht6]
  · isplitr; · iexact HC
    isplitl [Hx]; · iexact Hx
    isplitl [Hxp]; · iexact Hxp
    isplitl [HO]; · iexact HO
    isplitl [Ht2] <;> iassumption
  iintro ⟨Hc2, HO⟩
  iapply (wp_recv m ρ K c 1 send0.sem rfl [7, 8] (by decide) (dstw := gM) rfl) $$ [HO Hc1 Ha1]
  · isplitr; · iexact HC
    isplitl [Hc1]; · iexact Hc1
    isplitl [HO] <;> iassumption
  iintro ⟨HO, Hz1, Hg⟩
  ihave Hg := (show pay m ρ 1 c ⊢ gPts c (rstg m ρ c) from Entails.refl _) $$ Hg
  iapply (wp_recv m ρ K c 5 recv0.sem rfl [7, 8] (by decide) (dstw := rM) rfl) $$ [HO Hc5 Ha5]
  · isplitr; · iexact HC
    isplitl [Hc5]; · iexact Hc5
    isplitl [HO] <;> iassumption
  iintro ⟨HO, Hz5, Hr⟩
  ihave Hr := (show pay m ρ 5 c ⊢ rPts c (rstg m ρ (peer c)) from Entails.refl _) $$ Hr
  iapply (wp_load 𝒱₀ (c : Thread nD τ) none Set.univ (m := xM) (Finset.subset_univ _)) $$ Hxb; iintro Hxb
  unfold gPts
  iapply (wp_load 𝒱₀ (c : Thread nD τ) none Set.univ (m := gM) (by rw [View.set_whole]; exact Finset.subset_univ _)) $$ Hg; iintro Hg
  rw [read_x, read_g, wp_ret]; imodintro
  iapply Hk
  isplitl [HO]; · iexact HO
  isplitl [Hc2]; · iexact Hc2
  isplitl [Hz1]; · iexact Hz1
  isplitl [Hg]; · iexact Hg
  isplitl [Hz5]; · iexact Hz5
  isplitl [Hr] <;> iassumption

/-- The weight slot the device computes. -/
theorem part3 (Q : _ → sProp 𝕄) :
    iprop(rPts c (rstg m ρ (peer c))
      ∗ (rPts c (rstg m ρ (peer c))
        -∗ Q ⟨k0_pay11 (v2w c) (k0_pay4 (xstg m ρ c)) (k0_pay5 (xstg m ρ c) (rstg m ρ c)) (rstg m ρ (peer c)),
          k0_pay13 (v2w c) (k0_pay4 (xstg m ρ c)) (k0_pay5 (xstg m ρ c) (rstg m ρ c)) (rstg m ρ (peer c)), Scalar.ofBits .f32 0x00000000#32,
          k0_pay14 (v2w c) (k0_pay4 (xstg m ρ c)) (k0_pay5 (xstg m ρ c) (rstg m ρ c)) (rstg m ρ (peer c))⟩))
      ⊢ wp frame (wpE (defs₀ (F := F)) 𝒱₀ (c : Thread nD τ) none) Set.univ
          (atArgs (k0_part3 (F := F)) (v2w c) (k0_pay4 (xstg m ρ c)) (k0_pay5 (xstg m ρ c) (rstg m ρ c))) Q := by
  simp only [atArgs, k0_part3_eq_skeleton]; unfold k0_part3_skel
  simp only [Prog.lift, Prog.bind_op, Prog.bind_ret, Prog.pure_eq_ret]
  unfold rPts
  iintro ⟨Hr, Hk⟩
  iapply (wp_load 𝒱₀ (c : Thread nD τ) none Set.univ (m := rM) (by rw [View.set_whole]; exact Finset.subset_univ _)) $$ Hr; iintro Hr
  rw [read_r, wp_ret]; imodintro
  iapply Hk
  iexact Hr

theorem part4 (fw : Buf (Elt F) ((wSlot c).view.loc (c : Thread nD τ))) (fwp : Buf (Elt F) ((wSlot c).view.loc (peer c : Thread nD τ))) (Q : _ → sProp 𝕄) :
    iprop((ctx m ρ K ∗ owesE c [7, 8] ∗ wPts c c fw ∗ wPts c (peer c) fwp ∗ tok c 3 ∗ tok (peer c) 7 ∗ crd c 2 ∗ pos c 2)
      ∗ (∀ w, (owesE c [8] ∗ crd c 3 ∗ zer c 2 ∗ xPts c c (xallC m ρ c)) -∗ Q ⟨w, 1#32⟩))
      ⊢ wp frame (wpE (defs₀ (F := F)) 𝒱₀ (c : Thread nD τ) none) Set.univ
          (atArgs (k0_part4 (F := F)) c (v2w c) v5 v8 v9
            (k0_pay11 (v2w c) (k0_pay4 (xstg m ρ c)) (k0_pay5 (xstg m ρ c) (rstg m ρ c)) (rstg m ρ (peer c)))
            (k0_pay13 (v2w c) (k0_pay4 (xstg m ρ c)) (k0_pay5 (xstg m ρ c) (rstg m ρ c)) (rstg m ρ (peer c))) (Scalar.ofBits .f32 0x00000000#32)
            (k0_pay14 (v2w c) (k0_pay4 (xstg m ρ c)) (k0_pay5 (xstg m ρ c) (rstg m ρ c)) (rstg m ρ (peer c)))) Q := by
  simp only [atArgs, k0_part4_eq_skeleton]; unfold k0_part4_skel
  simp only [Prog.lift, Prog.bind_op, Prog.bind_ret, Prog.pure_eq_ret]
  iintro ⟨⟨#HC, HO, Hw, Hwp, Ht3, Ht7, Hc2, Ha2⟩, Hk⟩
  unfold wPts
  iapply (wp_load 𝒱₀ (c : Thread nD τ) none Set.univ (m := wtM) (r := (wRect (k0_off3 c) (k0_off3_inb c)).toLoadRect) (wLoad_set c _)) $$ Hw
  iintro Hw
  iapply (wp_store 𝒱₀ (c : Thread nD τ) none Set.univ (m := wtM) (r := wRect (k0_off3 c) (k0_off3_inb c)) (Mk := Finset.univ)
    (le_of_eq (wAccess_set c _))) $$ Hw
  iintro Hw
  ihave Hw := (wStored_pts m ρ c fw
    (k0_pay15 (k0_pay11 (v2w c) (k0_pay4 (xstg m ρ c)) (k0_pay5 (xstg m ρ c) (rstg m ρ c)) (rstg m ρ (peer c)))
      (k0_pay13 (v2w c) (k0_pay4 (xstg m ρ c)) (k0_pay5 (xstg m ρ c) (rstg m ρ c)) (rstg m ρ (peer c))) (FloatOps.ofBits FTy.f32 0#32)
      (k0_pay14 (v2w c) (k0_pay4 (xstg m ρ c)) (k0_pay5 (xstg m ρ c) (rstg m ρ c)) (rstg m ρ (peer c)))) rfl) $$ Hw
  iapply (wp_xfer m ρ K c 3 7 send2.sem recv2.sem rfl rfl _ (dev4_eq c) [8] (src := wSlot c) (dst := wSlot c) (wtC m ρ c) fwp rfl rfl
    (weights_kept m ρ c) (weights_landed m ρ c fwp)) $$ [Hw Hwp HO Ht3 Ht7]
  · isplitr; · iexact HC
    isplitl [Hw]; · iexact Hw
    isplitl [Hwp]; · iexact Hwp
    isplitl [HO]; · iexact HO
    isplitl [Ht3] <;> iassumption
  iintro ⟨Hc3, HO⟩
  iapply (wp_recv m ρ K c 2 send1.sem rfl [8] (by decide) (dstw := xSlot c) rfl) $$ [HO Hc2 Ha2]
  · isplitr; · iexact HC
    isplitl [Hc2]; · iexact Hc2
    isplitl [HO] <;> iassumption
  iintro ⟨HO, Hz2, Hx⟩
  ihave Hx := (show pay m ρ 2 c ⊢ xPts c c (xallC m ρ c) from Entails.refl _) $$ Hx
  rw [wp_ret]; imodintro
  iapply Hk
  isplitl [HO]; · iexact HO
  isplitl [Hc3]; · iexact Hc3
  isplitl [Hz2] <;> iassumption

theorem part5 (w : BitVec 32) (Q : _ → sProp 𝕄) :
    iprop((ctx m ρ K ∗ owesE c [8] ∗ crd c 6 ∗ pos c 6 ∗ crd c 3 ∗ pos c 3 ∗ crd c 7 ∗ pos c 7 ∗ xPts c c (xallC m ρ c))
      ∗ ((owesE c [8] ∗ zer c 6 ∗ zer c 3 ∗ zer c 7 ∗ ((c : Thread nD τ).loc cc0_scratch0 ↦{fullShare} xallC m ρ c)
          ∗ ((c : Thread nD τ).loc cc0_scratch2 ↦{fullShare} wtC m ρ c))
        -∗ Q ⟨k0_pay16 (xpay m ρ (pairDev c 0)), k0_pay17 (xpay m ρ (pairDev c 1))⟩))
      ⊢ wp frame (wpE (defs₀ (F := F)) 𝒱₀ (c : Thread nD τ) none) Set.univ (atArgs (k0_part5 (F := F)) c v5 v8 v9 w 1#32) Q := by
  simp only [atArgs, k0_part5_eq_skeleton]; unfold k0_part5_skel
  simp only [Prog.lift, Prog.bind_op, Prog.bind_ret, Prog.pure_eq_ret]
  iintro ⟨⟨#HC, HO, Hc6, Ha6, Hc3, Ha3, Hc7, Ha7, Hx⟩, Hk⟩
  iapply (wp_recv m ρ K c 6 recv1.sem rfl [8] (by decide) (dstw := xSlot c) rfl) $$ [HO Hc6 Ha6]
  · isplitr; · iexact HC
    isplitl [Hc6]; · iexact Hc6
    isplitl [HO] <;> iassumption
  iintro ⟨HO, Hz6, Hxp⟩
  ihave Hxp := (show pay m ρ 6 c ⊢ xPts (peer c) c (xallC m ρ c) from Entails.refl _) $$ Hxp
  iapply (wp_recv m ρ K c 3 send2.sem rfl [8] (by decide) (dstw := wSlot c) rfl) $$ [HO Hc3 Ha3]
  · isplitr; · iexact HC
    isplitl [Hc3]; · iexact Hc3
    isplitl [HO] <;> iassumption
  iintro ⟨HO, Hz3, Hw⟩
  ihave Hw := (show pay m ρ 3 c ⊢ wPts c c (wtC m ρ c) from Entails.refl _) $$ Hw
  iapply (wp_recv m ρ K c 7 recv2.sem rfl [8] (by decide) (dstw := wSlot c) rfl) $$ [HO Hc7 Ha7]
  · isplitr; · iexact HC
    isplitl [Hc7]; · iexact Hc7
    isplitl [HO] <;> iassumption
  iintro ⟨HO, Hz7, Hwp⟩
  ihave Hwp := (show pay m ρ 7 c ⊢ wPts (peer c) c (wtC m ρ c) from Entails.refl _) $$ Hwp
  ihave HX := (xPts_split c (xallC m ρ c)).2 $$ [Hx Hxp]
  · isplitl [Hx] <;> iassumption
  ihave HW := (wPts_split c (wtC m ρ c)).2 $$ [Hw Hwp]
  · isplitl [Hw] <;> iassumption
  iapply (wp_load 𝒱₀ (c : Thread nD τ) none Set.univ (m := xaM) (Finset.subset_univ _)) $$ HX; iintro HX
  iapply (wp_load 𝒱₀ (c : Thread nD τ) none Set.univ (m := xaM) (Finset.subset_univ _)) $$ HX; iintro HX
  rw [xLoaded m ρ c 0 (by decide), xLoaded m ρ c 1 (by decide), wp_ret]; imodintro
  iapply Hk
  isplitl [HO]; · iexact HO
  isplitl [Hz6]; · iexact Hz6
  isplitl [Hz3]; · iexact Hz3
  isplitl [Hz7]; · iexact Hz7
  isplitl [HX] <;> iassumption

theorem part6 (Q : _ → sProp 𝕄) :
    iprop((((c : Thread nD τ).loc cc0_scratch2 ↦{fullShare} wtC m ρ c) ∗ C10 m c none ∗ C20 m c none ∗ C11 m c none)
      ∗ ((((c : Thread nD τ).loc cc0_scratch2 ↦{fullShare} wtC m ρ c) ∗ C10 m c (some 0) ∗ C20 m c (some 0) ∗ C11 m c (some 1))
        -∗ Q ⟨x2 m ρ c, w8 m ρ c, iota8, accC m ρ c 0⟩))
      ⊢ wp frame (wpE (defs₀ (F := F)) 𝒱₀ (c : Thread nD τ) none) Set.univ
          (atArgs (k0_part6 (F := F)) (k0_pay16 (xpay m ρ (pairDev c 0))) (k0_pay17 (xpay m ρ (pairDev c 1)))) Q := by
  simp only [atArgs, k0_part6_eq_skeleton]; unfold k0_part6_skel
  simp only [Prog.lift, Prog.bind_op, Prog.bind_ret, Prog.pure_eq_ret]
  iintro ⟨⟨HW, H10, H20, H11⟩, Hk⟩
  iapply (wp_load 𝒱₀ (c : Thread nD τ) none Set.univ (m := wtM) (Finset.subset_univ _)) $$ HW; iintro HW
  iapply (wp_load 𝒱₀ (c : Thread nD τ) none Set.univ (m := wtM) (Finset.subset_univ _)) $$ HW; iintro HW
  iapply (wp_start1 m c 0 (by decide) st10 loc00.sem _ rfl) $$ H10
  iintro H10
  iapply (wp_start2 m c 0 (by decide) st20 loc01.sem _ rfl) $$ H20
  iintro H20
  iapply (wp_start1 m c 1 (by decide) st11 loc10.sem _ rfl) $$ H11
  iintro H11
  rw [wLoaded m ρ c 0 (by decide), wLoaded m ρ c 1 (by decide), wp_ret, show k0_pay18 (k0_pay16 (xpay m ρ (pairDev c 0))) (k0_pay17 (xpay m ρ (pairDev c 1))) = x2 m ρ c from rfl,
    show k0_pay19 (wpay m ρ (pairDev c 0)) (wpay m ρ (pairDev c 1)) = w8 m ρ c from rfl, show iota .tc S1024x8 32 [1] iota_S1024x8_d1_w32 = iota8 from rfl,
    show k0_pay20 = accC m ρ c 0 from rfl]; imodintro
  iapply Hk
  isplitl [HW]; · iexact HW
  isplitl [H10]; · iexact H10
  isplitl [H20] <;> iassumption

/-! ## The partial result -/

abbrev pr0 : Rect S2x512x1024 := Rect.unit (s := S2x512x1024) ![0, 0, 0] S1x512x1024.size inb_S2x512x1024_S1x512x1024_0_0_0
abbrev pr1 : Rect S2x512x1024 := Rect.unit (s := S2x512x1024) ![1, 0, 0] S1x512x1024.size inb_S2x512x1024_S1x512x1024_1_0_0

/-- The two halves as the partial sums' buffer holds them. -/
def halves (f : (cc0_scratch3 : Ref sig .tc).ty.Contents (Elt F)) : Prop :=
  paM.view.readAt (Elt F) pr0.toLoadRect f = lowC m ρ c ∧ paM.view.readAt (Elt F) pr1.toLoadRect f = highC m ρ c

theorem halves_stored (f : (cc0_scratch3 : Ref sig .tc).ty.Contents (Elt F)) :
    halves m ρ c ((paM.access pr1).write (Elt F) ((paM.access pr0).write (Elt F) f (lowC m ρ c) Finset.univ) (highC m ρ c) Finset.univ) := by
  constructor
  · rw [View.readAt_rect, View.read_slice_write_slice_of_disjoint]
    · exact View.read_write_univ (v := paM.access pr0) _ _
    · show Disjoint ((View.whole cc0_scratch3).slice pr0).set ((View.whole cc0_scratch3).slice pr1).set
      rw [View.set_slice_whole, View.set_slice_whole]
      exact Rect.unit_disjoint (s := S2x512x1024) (0 : Fin 3) (.inl (by decide))
  · rw [View.readAt_rect]
    exact View.read_write_univ (v := paM.access pr1) _ _

theorem write_s (f w : (cc0_scratch4 : Ref sig .tc).ty.Contents (Elt F)) :
    ((sM : Memref sig .tc .vmem S512x1024 .bf16).access (Rect.unit (s := S512x1024) ![0, 0] S512x1024.size inb_S512x1024_S512x1024_0_0) : View sig .tc _ _ _).write (Elt F) f w Finset.univ = w :=
  Memref.write_access_unit_zero_univ (Elt F) cc0_scratch4 hz2 _ f w

theorem part19 (fp : Buf (Elt F) ((c : Thread nD τ).loc cc0_scratch3)) (fs : Buf (Elt F) (sM.view.loc (c : Thread nD τ)))
    (fd : Buf (Elt F) (pM.view.loc (peer c : Thread nD τ))) (v547 : FVec F S1x512x1024 .f32) (Q : _ → sProp 𝕄) :
    iprop((ctx m ρ K ∗ owesE c [8] ∗ paPts c fp ∗ sPts c fs ∗ pPts (peer c) fd ∗ tok c 4 ∗ tok (peer c) 8 ∗ pos c 4)
      ∗ (∀ w, (owesE c [] ∗ zer c 4 ∗ (∃ f, ⌜halves m ρ c f⌝ ∗ paPts c f) ∗ sPts c (psend m ρ c)) -∗ Q w))
      ⊢ wp frame (wpE (defs₀ (F := F)) 𝒱₀ (c : Thread nD τ) none) Set.univ
          (atArgs (k0_part19 (F := F)) c (v2w c) v5 v8 v9 (accC m ρ c 8)
            (extractStridedSlice S512x1024 ![0, 0] (accC m ρ c 8) slices_S1024x1024_o0_0_S512x1024) v547) Q := by
  simp only [atArgs, k0_part19_eq_skeleton]; unfold k0_part19_skel
  simp only [Prog.lift, Prog.bind_op, Prog.bind_ret, Prog.pure_eq_ret]
  iintro ⟨⟨#HC, HO, Hp, Hs, Hd, Ht4, Ht8, Ha4⟩, Hk⟩
  have hh := halves_stored m ρ c fp
  iapply (wp_store 𝒱₀ (c : Thread nD τ) none Set.univ (m := paM) (r := pr0) (Mk := Finset.univ) (Finset.subset_univ _)) $$ Hp; iintro Hp
  iapply (wp_load 𝒱₀ (c : Thread nD τ) none Set.univ (m := paM) (Finset.subset_univ _)) $$ Hp; iintro Hp
  iapply (wp_store 𝒱₀ (c : Thread nD τ) none Set.univ (m := paM) (r := pr1) (Mk := Finset.univ) (Finset.subset_univ _)) $$ Hp; iintro Hp
  rw [show k0_pay36 (extractStridedSlice S512x1024 ![0, 0] (accC m ρ c 8) slices_S1024x1024_o0_0_S512x1024) = lowC m ρ c from rfl,
    show k0_pay37 (accC m ρ c 8) = highC m ρ c from rfl]
  iapply (wp_load 𝒱₀ (c : Thread nD τ) none Set.univ (m := paM) (Finset.subset_univ _)) $$ Hp; iintro Hp
  iapply (wp_load 𝒱₀ (c : Thread nD τ) none Set.univ (m := paM) (Finset.subset_univ _)) $$ Hp; iintro Hp
  rw [hh.1, hh.2]
  unfold sPts
  iapply (wp_load 𝒱₀ (c : Thread nD τ) none Set.univ (m := sM) (by rw [View.set_whole]; exact Finset.subset_univ _)) $$ Hs; iintro Hs
  iapply (wp_store 𝒱₀ (c : Thread nD τ) none Set.univ (m := sM) (r := Rect.unit (s := S512x1024) ![0, 0] S512x1024.size inb_S512x1024_S512x1024_0_0)
    (Mk := Finset.univ) (by rw [View.set_whole]; exact Finset.subset_univ _)) $$ Hs; iintro Hs
  rw [write_s]
  iapply (wp_xfer m ρ K c 4 8 send3.sem recv3.sem rfl rfl _ (dev5_eq c) [] (src := sM) (dst := pM) (psend m ρ c) fd rfl rfl
    (Entails.refl _) (partial_landed m ρ c fd)) $$ [Hs Hd HO Ht4 Ht8]
  · isplitr; · iexact HC
    isplitl [Hs]; · iexact Hs
    isplitl [Hd]; · unfold pPts; iexact Hd
    isplitl [HO]; · iexact HO
    isplitl [Ht4] <;> iassumption
  iintro ⟨Hc4, HO⟩
  iapply (wp_recv m ρ K c 4 send3.sem rfl [] (by decide) (dstw := sM) rfl) $$ [HO Hc4 Ha4]
  · isplitr; · iexact HC
    isplitl [Hc4]; · iexact Hc4
    isplitl [HO] <;> iassumption
  iintro ⟨HO, Hz4, Hs⟩
  ihave Hs := (show pay m ρ 4 c ⊢ sPts c (psend m ρ c) from Entails.refl _) $$ Hs
  unfold sPts
  rw [wp_ret]; imodintro
  iapply Hk
  isplitl [HO]; · iexact HO
  isplitl [Hz4]; · iexact Hz4
  isplitl [Hp]
  · iexists _
    isplitr; · (ipureintro; exact hh)
    iexact Hp
  iexact Hs

end Cert.ExchangeProof

end
-- ==== Proof.Main.lean ====
/-
# `Main`: the kernel's body from its start to its end, and the body obligation of the launch
-/
module

public import proofs.«01_k».proof.Proof.Body

@[expose] public section

set_option maxRecDepth 16384

noncomputable section

namespace Cert.ExchangeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 9 → ℕ) (c : Dev nD)

/-! ## The staging buffers' two slots -/

theorem mem_stage (b : Memref sig .tc .vmem S2x1024x1024 .f32) (off : ℕ) (inb) (i : S2x1024x1024.Idx) :
    i ∈ (Rect.unit (s := S2x1024x1024) ![off, 0, 0] S1x1024x1024.size inb).set ↔ (i 0).val = off := by
  rw [Rect.mem_set_unit]
  have h1 : (i 1).val < 1024 := (i 1).isLt
  have h2 : (i 2).val < 1024 := (i 2).isLt
  constructor
  · intro h; have := h 0
    change off ≤ (i 0).val ∧ (i 0).val < off + 1 at this
    omega
  · intro h a
    match a with
    | ⟨0, _⟩ => show off ≤ (i 0).val ∧ (i 0).val < off + 1; omega
    | ⟨1, _⟩ => show 0 ≤ (i 1).val ∧ (i 1).val < 0 + 1024; omega
    | ⟨2, _⟩ => show 0 ≤ (i 2).val ∧ (i 2).val < 0 + 1024; omega

abbrev sr0 : Rect S2x1024x1024 := Rect.unit (s := S2x1024x1024) ![0, 0, 0] S1x1024x1024.size inb_S2x1024x1024_S1x1024x1024_0_0_0
abbrev sr1 : Rect S2x1024x1024 := Rect.unit (s := S2x1024x1024) ![1, 0, 0] S1x1024x1024.size inb_S2x1024x1024_S1x1024x1024_1_0_0

theorem stage_disjoint : Disjoint sr0.set sr1.set := Rect.unit_disjoint (s := S2x1024x1024) (0 : Fin 3) (.inl (by decide))

theorem stage_union : sr0.set ∪ sr1.set = Finset.univ := by
  apply Finset.eq_univ_iff_forall.mpr
  intro i
  have h0 : ((i : S2x1024x1024.Idx) 0).val < 2 := (i 0).isLt
  rw [Finset.mem_union]
  by_cases h : ((i : S2x1024x1024.Idx) 0).val = 0
  · exact .inl ((mem_stage w1M 0 _ i).mpr h)
  · exact .inr ((mem_stage w1M 1 _ i).mpr (by omega))

/-- The first weights' staging buffer is its two slots. -/
theorem stage1_split (f : Buf (Elt F) ((c : Thread nD τ).loc cc0_scratch6)) :
    ((c : Thread nD τ).loc cc0_scratch6 ↦{fullShare} f : sProp 𝕄)
      ⊢ iprop((st10.view.loc (c : Thread nD τ) ↦[st10.view.set]{fullShare} f) ∗ (st11.view.loc (c : Thread nD τ) ↦[st11.view.set]{fullShare} f)) := by
  have h := pointsTo_union (Ix := Unit) (Val := Elt F) (Name := ℕ) (U := UU) (Lvl := ℕ) (ℓ := (c : Thread nD τ).loc cc0_scratch6)
    (q := fullShare) (f := f) stage_disjoint
  rw [stage_union] at h
  have e0 : st10.view.set = sr0.set := View.set_slice_whole cc0_scratch6 sr0
  have e1 : st11.view.set = sr1.set := View.set_slice_whole cc0_scratch6 sr1
  rw [e0, e1]
  exact h.1

theorem stage1_join (f g : Buf (Elt F) ((c : Thread nD τ).loc cc0_scratch6)) :
    iprop((st10.view.loc (c : Thread nD τ) ↦[st10.view.set]{fullShare} f) ∗ (st11.view.loc (c : Thread nD τ) ↦[st11.view.set]{fullShare} g))
      ⊢ (iprop(∃ f, (c : Thread nD τ).loc cc0_scratch6 ↦{fullShare} f) : sProp 𝕄) := by
  have h := pointsTo_join (Ix := Unit) (Val := Elt F) (Name := ℕ) (U := UU) (Lvl := ℕ) (ℓ := (c : Thread nD τ).loc cc0_scratch6)
    (q := fullShare) (f := f) (g := g) stage_disjoint
  rw [stage_union] at h
  have e0 : st10.view.set = sr0.set := View.set_slice_whole cc0_scratch6 sr0
  have e1 : st11.view.set = sr1.set := View.set_slice_whole cc0_scratch6 sr1
  rw [e0, e1]
  iintro H
  iexists _
  iapply h
  iexact H

/-- The second weights' staging buffer is its two slots. -/
theorem stage2_split (f : Buf (Elt F) ((c : Thread nD τ).loc cc0_scratch7)) :
    ((c : Thread nD τ).loc cc0_scratch7 ↦{fullShare} f : sProp 𝕄)
      ⊢ iprop((st20.view.loc (c : Thread nD τ) ↦[st20.view.set]{fullShare} f) ∗ (st21.view.loc (c : Thread nD τ) ↦[st21.view.set]{fullShare} f)) := by
  have h := pointsTo_union (Ix := Unit) (Val := Elt F) (Name := ℕ) (U := UU) (Lvl := ℕ) (ℓ := (c : Thread nD τ).loc cc0_scratch7)
    (q := fullShare) (f := f) stage_disjoint
  rw [stage_union] at h
  have e0 : st20.view.set = sr0.set := View.set_slice_whole cc0_scratch7 sr0
  have e1 : st21.view.set = sr1.set := View.set_slice_whole cc0_scratch7 sr1
  rw [e0, e1]
  exact h.1

theorem stage2_join (f g : Buf (Elt F) ((c : Thread nD τ).loc cc0_scratch7)) :
    iprop((st20.view.loc (c : Thread nD τ) ↦[st20.view.set]{fullShare} f) ∗ (st21.view.loc (c : Thread nD τ) ↦[st21.view.set]{fullShare} g))
      ⊢ (iprop(∃ f, (c : Thread nD τ).loc cc0_scratch7 ↦{fullShare} f) : sProp 𝕄) := by
  have h := pointsTo_join (Ix := Unit) (Val := Elt F) (Name := ℕ) (U := UU) (Lvl := ℕ) (ℓ := (c : Thread nD τ).loc cc0_scratch7)
    (q := fullShare) (f := f) (g := g) stage_disjoint
  rw [stage_union] at h
  have e0 : st20.view.set = sr0.set := View.set_slice_whole cc0_scratch7 sr0
  have e1 : st21.view.set = sr1.set := View.set_slice_whole cc0_scratch7 sr1
  rw [e0, e1]
  iintro H
  iexists _
  iapply h
  iexact H

/-! ## What the body starts from and ends with -/

/-- The device's positions, the tokens it pays with and the credits it waits on. -/
def linear : sProp 𝕄 :=
  iprop((pos c 0 ∗ pos c 1 ∗ pos c 2 ∗ pos c 3 ∗ pos c 4 ∗ pos c 5 ∗ pos c 6 ∗ pos c 7 ∗ pos c 8)
    ∗ (tok (peer c) 0 ∗ tok c 1 ∗ tok c 2 ∗ tok c 3 ∗ tok c 4 ∗ tok (peer c) 5 ∗ tok (peer c) 6 ∗ tok (peer c) 7 ∗ tok (peer c) 8))

def credits : sProp 𝕄 := iprop(crd c 0 ∗ crd c 5 ∗ crd c 6 ∗ crd c 7 ∗ crd c 8)

/-- The counters of the local copies at zero. -/
def locals : sProp 𝕄 :=
  iprop(semVal ((c : Thread nD τ), .dma loc00.sem) 0 ∗ semVal ((c : Thread nD τ), .dma loc01.sem) 0
    ∗ semVal ((c : Thread nD τ), .dma loc10.sem) 0 ∗ semVal ((c : Thread nD τ), .dma loc11.sem) 0)

/-- The two weight arrays, as launched. -/
def arrays : sProp 𝕄 :=
  iprop(((c : Thread nD τ).loc main_arg2 ↦{fullShare} m ((c : Thread nD τ).loc main_arg2))
    ∗ ((c : Thread nD τ).loc main_arg3 ↦{fullShare} m ((c : Thread nD τ).loc main_arg3)))

/-- The scratch buffers, at some contents. -/
def scratch : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f)
    ∗ (∃ f, (c : Thread nD τ).loc cc0_scratch4 ↦{fullShare} f) ∗ (∃ f, (c : Thread nD τ).loc cc0_scratch5 ↦{fullShare} f)
    ∗ (∃ f, (c : Thread nD τ).loc cc0_scratch6 ↦{fullShare} f) ∗ (∃ f, (c : Thread nD τ).loc cc0_scratch7 ↦{fullShare} f))

/-- The exchange cells' counters at zero, the cells closed. -/
def closed : sProp 𝕄 := iprop(zer c 0 ∗ zer c 1 ∗ zer c 2 ∗ zer c 3 ∗ zer c 4 ∗ zer c 5 ∗ zer c 6 ∗ zer c 7 ∗ zer c 8)

def start : sProp 𝕄 := iprop((∃ K, ctx m ρ K) ∗ linear c ∗ credits c ∗ locals c ∗ arrays m c)
def Φ₀ : sProp 𝕄 := iprop(start m ρ c ∗ scratch c)
def Φ₁ : sProp 𝕄 := iprop(scratch c ∗ closed c ∗ locals c ∗ arrays m c)

/-- The staging buffers, the two weight arrays and the local copies' counters are the four idle slots. -/
theorem cells_intro :
    iprop((∃ f, (c : Thread nD τ).loc cc0_scratch6 ↦{fullShare} f) ∗ (∃ f, (c : Thread nD τ).loc cc0_scratch7 ↦{fullShare} f) ∗ locals c ∗ arrays m c)
      ⊢ iprop(C10 m c none ∗ C11 m c none ∗ C20 m c none ∗ C21 m c none) := by
  unfold locals arrays C10 C11 C20 C21 Cell Idle
  iintro ⟨⟨%f6, H6⟩, ⟨%f7, H7⟩, ⟨Hl00, Hl01, Hl10, Hl11⟩, HW1, HW2⟩
  ihave H6 := stage1_split c f6 $$ H6
  icases H6 with ⟨H60, H61⟩
  ihave H7 := stage2_split c f7 $$ H7
  icases H7 with ⟨H70, H71⟩
  ihave HW1 := (pointsTo_share (PosShare.mem_left_op_right fullShare)).1 $$ HW1
  icases HW1 with ⟨HW1a, HW1b⟩
  ihave HW2 := (pointsTo_share (PosShare.mem_left_op_right fullShare)).1 $$ HW2
  icases HW2 with ⟨HW2a, HW2b⟩
  isplitl [H60 HW1a Hl00]
  · isplitl [H60]; · iexists f6; iexact H60
    isplitl [HW1a] <;> iassumption
  isplitl [H61 HW1b Hl10]
  · isplitl [H61]; · iexists f6; iexact H61
    isplitl [HW1b] <;> iassumption
  isplitl [H70 HW2a Hl01]
  · isplitl [H70]; · iexists f7; iexact H70
    isplitl [HW2a] <;> iassumption
  · isplitl [H71]; · iexists f7; iexact H71
    isplitl [HW2b] <;> iassumption

theorem cells_elim :
    iprop(C10 m c none ∗ C11 m c none ∗ C20 m c none ∗ C21 m c none)
      ⊢ iprop((∃ f, (c : Thread nD τ).loc cc0_scratch6 ↦{fullShare} f) ∗ (∃ f, (c : Thread nD τ).loc cc0_scratch7 ↦{fullShare} f) ∗ locals c ∗ arrays m c) := by
  unfold locals arrays C10 C11 C20 C21 Cell Idle
  iintro ⟨⟨⟨%f60, H60⟩, HW1a, Hl00⟩, ⟨⟨%f61, H61⟩, HW1b, Hl10⟩, ⟨⟨%f70, H70⟩, HW2a, Hl01⟩, ⟨⟨%f71, H71⟩, HW2b, Hl11⟩⟩
  ihave HW1 := (pointsTo_share (PosShare.mem_left_op_right fullShare)).2 $$ [HW1a HW1b]
  · isplitl [HW1a] <;> iassumption
  ihave HW2 := (pointsTo_share (PosShare.mem_left_op_right fullShare)).2 $$ [HW2a HW2b]
  · isplitl [HW2a] <;> iassumption
  isplitl [H60 H61]
  · iapply (stage1_join c f60 f61)
    isplitl [H60] <;> iassumption
  isplitl [H70 H71]
  · iapply (stage2_join c f70 f71)
    isplitl [H70] <;> iassumption
  isplitl [Hl00 Hl01 Hl10 Hl11]
  · isplitl [Hl00]; · iexact Hl00
    isplitl [Hl01]; · iexact Hl01
    isplitl [Hl10] <;> iassumption
  isplitl [HW1] <;> iassumption

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem read_p (f : (cc0_scratch5 : Ref sig .tc).ty.Contents (Elt F)) :
    (pM : Memref sig .tc .vmem S512x1024 .bf16).view.readAt (Elt F) (Rect.unit (s := S512x1024) ![0, 0] S512x1024.size inb_S512x1024_S512x1024_0_0).toLoadRect f = f :=
  Memref.readAt_unit_zero (Elt F) cc0_scratch5 hz2 _ f
theorem write_out (f w : (cc0_stg2_0 : Ref sig .tc).ty.Contents (Elt F)) :
    ((oM : Memref sig .tc .vmem S512x1024 .f32).access (Rect.unit (s := S512x1024) ![0, 0] S512x1024.size inb_S512x1024_S512x1024_0_0) : View sig .tc _ _ _).write (Elt F) f w Finset.univ = w :=
  Memref.write_access_unit_zero_univ (Elt F) cc0_stg2_0 hz2 _ f w

theorem pay8 : pay m ρ 8 c ⊢ ((c : Thread nD τ).loc cc0_scratch5 ↦{fullShare} psend m ρ (peer c)) := by
  rw [show pay m ρ 8 c = pPts c (psend m ρ (peer c)) from rfl]
  unfold pPts
  rw [View.set_whole]

theorem ctx_lev : ctx m ρ K ⊢ levAts L lv := by
  unfold ctx
  iintro ⟨#_, #HL⟩
  iexact HL

set_option maxHeartbeats 800000 in
/-- The body, one part after the other. -/
theorem sound_body (fo : Buf (Elt F) ((c : Thread nD τ).loc cc0_stg2_0)) (Kt : PUnit → sProp 𝕄) :
    iprop((Φ₀ m ρ c ∗ owesE c [0, 5, 6, 7, 8] ∗ xb m ρ c ∗ ((c : Thread nD τ).loc cc0_stg1_0 ↦{fullShare} rstg m ρ c) ∗ ((c : Thread nD τ).loc cc0_stg2_0 ↦{fullShare} fo))
      ∗ ((Φ₁ m c ∗ owesE c [] ∗ xb m ρ c ∗ ((c : Thread nD τ).loc cc0_stg1_0 ↦{fullShare} rstg m ρ c) ∗ ((c : Thread nD τ).loc cc0_stg2_0 ↦{fullShare} outAt m ρ c)) -∗ Kt ⟨⟩))
      ⊢ wp frame (wpE (defs₀ (F := F)) 𝒱₀ c none) Set.univ (atArgs (cc0_body (F := F))) Kt := by
  simp only [atArgs, cc0_body_eq_skeleton]; unfold cc0_body_skel
  simp only [Prog.lift, Prog.bind_op, Prog.bind_ret, Prog.pure_eq_ret, wp_bind]
  unfold Φ₀ start linear credits scratch
  iintro ⟨⟨⟨⟨⟨%K, #HC⟩, ⟨⟨Ha0, Ha1, Ha2, Ha3, Ha4, Ha5, Ha6, Ha7, Ha8⟩, Ht0, Ht1, Ht2, Ht3, Ht4, Ht5, Ht6, Ht7, Ht8⟩, ⟨Hc0, Hc5, Hc6, Hc7, Hc8⟩,
      Hloc, Harr⟩, ⟨%f0, Hs0⟩, ⟨%f1, Hs1⟩, ⟨%f2, Hs2⟩, ⟨%f3, Hs3⟩, ⟨%f4, Hs4⟩, ⟨%f5, Hs5⟩, Hs6, Hs7⟩, HO, Hxb, Hg, Ho⟩, Hk⟩
  ihave Hx := (xPts_split c f0).1 $$ Hs0
  icases Hx with ⟨Hx, Hxp⟩
  ihave Hw := (wPts_split c f2).1 $$ Hs2
  icases Hw with ⟨Hw, Hwp⟩
  iapply (part1 m ρ K c f1 f0 f2 f5)
  isplitl [HO Ht0 Hc0 Ha0 Hs1 Hxp Hwp Hs5 Hg Ht1 Ht5 Hxb]
  · isplitr; · iexact HC
    isplitl [HO]; · iexact HO
    isplitl [Ht0]; · iexact Ht0
    isplitl [Hc0]; · iexact Hc0
    isplitl [Ha0]; · iexact Ha0
    isplitl [Hs1]; · (unfold rPts; rw [View.set_whole]; iexact Hs1)
    isplitl [Hxp]; · iexact Hxp
    isplitl [Hwp]; · iexact Hwp
    isplitl [Hs5]; · (unfold pPts; rw [View.set_whole]; iexact Hs5)
    isplitl [Hg]; · (unfold gPts; rw [View.set_whole]; iexact Hg)
    isplitl [Ht1]; · iexact Ht1
    isplitl [Ht5] <;> iassumption
  iintro ⟨HO, Hz0, Hc1, ⟨%gx, Hxp⟩, ⟨%gw, Hwp⟩, ⟨%gp, Hpp⟩, Hxb⟩
  iapply (part2 m ρ K c)
  isplitl [HO Hx Hxp Ht2 Ht6 Hc1 Ha1 Hc5 Ha5 Hxb]
  · isplitr; · iexact HC
    isplitl [HO]; · iexact HO
    isplitl [Hx]; · iexact Hx
    isplitl [Hxp]; · iexact Hxp
    isplitl [Ht2]; · iexact Ht2
    isplitl [Ht6]; · iexact Ht6
    isplitl [Hc1]; · iexact Hc1
    isplitl [Ha1]; · iexact Ha1
    isplitl [Hc5]; · iexact Hc5
    isplitl [Ha5] <;> iassumption
  iintro ⟨HO, Hc2, Hz1, Hg, Hz5, Hr, Hxb⟩
  iapply (part3 m ρ c)
  isplitl [Hr]; · iexact Hr
  iintro Hr
  iapply (part4 m ρ K c)
  isplitl [HO Hw Hwp Ht3 Ht7 Hc2 Ha2]
  · isplitr; · iexact HC
    isplitl [HO]; · iexact HO
    isplitl [Hw]; · iexact Hw
    isplitl [Hwp]; · iexact Hwp
    isplitl [Ht3]; · iexact Ht3
    isplitl [Ht7]; · iexact Ht7
    isplitl [Hc2] <;> iassumption
  iintro %w4 ⟨HO, Hc3, Hz2, Hx⟩
  iapply (part5 m ρ K c)
  isplitl [HO Hc6 Ha6 Hc3 Ha3 Hc7 Ha7 Hx]
  · isplitr; · iexact HC
    isplitl [HO]; · iexact HO
    isplitl [Hc6]; · iexact Hc6
    isplitl [Ha6]; · iexact Ha6
    isplitl [Hc3]; · iexact Hc3
    isplitl [Ha3]; · iexact Ha3
    isplitl [Hc7]; · iexact Hc7
    isplitl [Ha7] <;> iassumption
  iintro ⟨HO, Hz6, Hz3, Hz7, HX, HW⟩
  ihave #HL := ctx_lev m ρ K $$ HC
  ihave Hcells := cells_intro m c $$ [Hs6 Hs7 Hloc Harr]
  · isplitl [Hs6]; · iexact Hs6
    isplitl [Hs7]; · iexact Hs7
    isplitl [Hloc] <;> iassumption
  icases Hcells with ⟨H10, H11, H20, H21⟩
  iapply (part6 m ρ c)
  isplitl [HW H10 H20 H11]
  · isplitl [HW]; · iexact HW
    isplitl [H10]; · iexact H10
    isplitl [H20]; · iexact H20
    iexact H11
  iintro ⟨HW, H10, H20, H11⟩
  iapply (part7 m ρ c)
  isplitl [H21 H10 HO]
  · isplitl [H21]; · iexact H21
    isplitl [H10]; · iexact H10
    isplitl [HO]; · iexact HO
    iexact HL
  iintro ⟨H21, H10, HO⟩
  iapply (part8 m ρ c)
  isplitl [H20 H10 HO]
  · isplitl [H20]; · iexact H20
    isplitl [H10]; · iexact H10
    isplitl [HO]; · iexact HO
    iexact HL
  iintro ⟨H20, H10, HO⟩
  iapply (part9 m ρ c)
  isplitl [H11 H21 HO]
  · isplitl [H11]; · iexact H11
    isplitl [H21]; · iexact H21
    isplitl [HO]; · iexact HO
    iexact HL
  iintro ⟨H11, H21, HO⟩
  iapply (part10 m ρ c)
  isplitl [H11 H21 H10 HO]
  · isplitl [H11]; · iexact H11
    isplitl [H21]; · iexact H21
    isplitl [H10]; · iexact H10
    isplitl [HO]; · iexact HO
    iexact HL
  iintro ⟨H11, H21, H10, HO⟩
  iapply (part11 m ρ c)
  isplitl [H20 H10 HO]
  · isplitl [H20]; · iexact H20
    isplitl [H10]; · iexact H10
    isplitl [HO]; · iexact HO
    iexact HL
  iintro ⟨H20, H10, HO⟩
  iapply (part12 m ρ c)
  isplitl [H11 H21 HO]
  · isplitl [H11]; · iexact H11
    isplitl [H21]; · iexact H21
    isplitl [HO]; · iexact HO
    iexact HL
  iintro ⟨H11, H21, HO⟩
  iapply (part13 m ρ c)
  isplitl [H11 H21 H10 HO]
  · isplitl [H11]; · iexact H11
    isplitl [H21]; · iexact H21
    isplitl [H10]; · iexact H10
    isplitl [HO]; · iexact HO
    iexact HL
  iintro ⟨H11, H21, H10, HO⟩
  iapply (part14 m ρ c)
  isplitl [H20 H10 HO]
  · isplitl [H20]; · iexact H20
    isplitl [H10]; · iexact H10
    isplitl [HO]; · iexact HO
    iexact HL
  iintro ⟨H20, H10, HO⟩
  iapply (part15 m ρ c)
  isplitl [H20 H11 H21 HO]
  · isplitl [H20]; · iexact H20
    isplitl [H11]; · iexact H11
    isplitl [H21]; · iexact H21
    isplitl [HO]; · iexact HO
    iexact HL
  iintro ⟨H20, H11, H21, HO⟩
  iapply (part16 m ρ c)
  isplitl [H11 H21]
  · isplitl [H11]; · iexact H11
    iexact H21
  iintro ⟨H11, H21⟩
  iapply (part17 m ρ c)
  isplitl [H10 H20 HO]
  · isplitl [H10]; · iexact H10
    isplitl [H20]; · iexact H20
    isplitl [HO]; · iexact HO
    iexact HL
  iintro ⟨H10, H20, HO⟩
  iapply (part18 m ρ c f3)
  isplitl [Hs3 H11 H21 HO]
  · isplitl [Hs3]; · iexact Hs3
    isplitl [H11]; · iexact H11
    isplitl [H21]; · iexact H21
    isplitl [HO]; · iexact HO
    iexact HL
  iintro ⟨Hs3, H11, H21, HO⟩
  iapply (part19 m ρ K c)
  isplitl [HO Hs3 Hs4 Hpp Ht4 Ht8 Ha4]
  · isplitr; · iexact HC
    isplitl [HO]; · iexact HO
    isplitl [Hs3]; · iexact Hs3
    isplitl [Hs4]; · (unfold sPts; rw [View.set_whole]; iexact Hs4)
    isplitl [Hpp]; · iexact Hpp
    isplitl [Ht4]; · iexact Ht4
    isplitl [Ht8] <;> iassumption
  iintro %w19 ⟨HO, Hz4, ⟨%fh, %hh, Hs3⟩, Hs4⟩
  iapply (wp_recv m ρ K c 8 recv3.sem rfl [] (fun j hj => nomatch hj) (dstw := pM) rfl) $$ [Hc8 HO Ha8]
  · isplitr; · iexact HC
    isplitl [Hc8]; · iexact Hc8
    isplitl [HO] <;> iassumption
  iintro ⟨HO, Hz8, Hp⟩
  ihave Hp := pay8 m ρ c $$ Hp
  iapply (wp_load 𝒱₀ (c : Thread nD τ) none Set.univ (m := paM) (Finset.subset_univ _)) $$ Hs3; iintro Hs3
  iapply (wp_load 𝒱₀ (c : Thread nD τ) none Set.univ (m := paM) (Finset.subset_univ _)) $$ Hs3; iintro Hs3
  iapply (wp_load 𝒱₀ (c : Thread nD τ) none Set.univ (m := pM) (Finset.subset_univ _)) $$ Hp; iintro Hp
  iapply (wp_load 𝒱₀ (c : Thread nD τ) none Set.univ (m := oM) (Finset.subset_univ _)) $$ Ho; iintro Ho
  rw [hh.1, hh.2, read_p]
  iapply (wp_store 𝒱₀ (c : Thread nD τ) none Set.univ (m := oM) (r := Rect.unit (s := S512x1024) ![0, 0] S512x1024.size inb_S512x1024_S512x1024_0_0)
    (Mk := Finset.univ) (Finset.subset_univ _)) $$ Ho; iintro Ho
  rw [write_out]
  rw [wp_ret]; imodintro
  rw [show k0_pay1 (v2w c) (lowC m ρ c) (highC m ρ c) (psend m ρ (peer c)) = outAt m ρ c from rfl]
  iapply Hk
  ihave Hcells := cells_elim m c $$ [H10 H11 H20 H21]
  · isplitl [H10]; · iexact H10
    isplitl [H11]; · iexact H11
    isplitl [H20] <;> iassumption
  icases Hcells with ⟨Hs6, Hs7, Hloc, Harr⟩
  ihave Hs1 := (show rPts c (rstg m ρ (peer c)) ⊢ ((c : Thread nD τ).loc cc0_scratch1 ↦{fullShare} rstg m ρ (peer c)) from by
    unfold rPts; rw [View.set_whole]) $$ Hr
  ihave Hg := (show gPts c (rstg m ρ c) ⊢ ((c : Thread nD τ).loc cc0_stg1_0 ↦{fullShare} rstg m ρ c) from by
    unfold gPts; rw [View.set_whole]) $$ Hg
  ihave Hs4 := (show sPts c (psend m ρ c) ⊢ ((c : Thread nD τ).loc cc0_scratch4 ↦{fullShare} psend m ρ c) from by
    unfold sPts; rw [View.set_whole]) $$ Hs4
  isplitl [HX Hs1 HW Hs3 Hs4 Hp Hs6 Hs7 Hz0 Hz1 Hz2 Hz3 Hz4 Hz5 Hz6 Hz7 Hz8 Hloc Harr]
  · unfold Φ₁ scratch closed
    isplitl [HX Hs1 HW Hs3 Hs4 Hp Hs6 Hs7]
    · isplitl [HX]; · iexists _; iexact HX
      isplitl [Hs1]; · iexists _; iexact Hs1
      isplitl [HW]; · iexists _; iexact HW
      isplitl [Hs3]; · iexists _; iexact Hs3
      isplitl [Hs4]; · iexists _; iexact Hs4
      isplitl [Hp]; · iexists _; iexact Hp
      isplitl [Hs6] <;> iassumption
    isplitl [Hz0 Hz1 Hz2 Hz3 Hz4 Hz5 Hz6 Hz7 Hz8]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7] <;> iassumption
    isplitl [Hloc] <;> iassumption
  isplitl [HO]; · iexact HO
  isplitl [Hxb]; · iexact Hxb
  isplitl [Hg] <;> iassumption

/-! ## The body obligation -/

def bodyPre : sProp 𝕄 :=
  iprop((dats m ρ 0 c).Φ t0_0.castSucc ∗ (dats m ρ 0 c).owesAt () t0_0.castSucc
      ∗ (∃ d, ∃ f : Buf (Elt F) ((c : Thread nD τ).loc cc0_stg0_0), ⌜f = (dats m ρ 0 c).before (0 : Fin 3) t0_0 d⌝ ∗ (((c : Thread nD τ).loc cc0_stg0_0) ↦{fullShare} f))
      ∗ (∃ d, ∃ f : Buf (Elt F) ((c : Thread nD τ).loc cc0_stg1_0), ⌜f = (dats m ρ 0 c).before (1 : Fin 3) t0_0 d⌝ ∗ (((c : Thread nD τ).loc cc0_stg1_0) ↦{fullShare} f))
      ∗ (∃ d, ∃ f : Buf (Elt F) ((c : Thread nD τ).loc cc0_stg2_0), ⌜f = (dats m ρ 0 c).before (2 : Fin 3) t0_0 d⌝ ∗ (((c : Thread nD τ).loc cc0_stg2_0) ↦{fullShare} f)))

def bodyPost : sProp 𝕄 :=
  iprop((dats m ρ 0 c).Φ t0_0.succ ∗ (dats m ρ 0 c).owesAt () t0_0.succ
        ∗ (∃ f : Buf (Elt F) ((c : Thread nD τ).loc cc0_stg0_0), ⌜f = xstg m ρ c⌝ ∗ (((c : Thread nD τ).loc cc0_stg0_0) ↦{fullShare} f))
        ∗ (∃ f : Buf (Elt F) ((c : Thread nD τ).loc cc0_stg1_0), ⌜f = rstg m ρ c⌝ ∗ (((c : Thread nD τ).loc cc0_stg1_0) ↦{fullShare} f))
        ∗ (∃ f : Buf (Elt F) ((c : Thread nD τ).loc cc0_stg2_0), ⌜f = outAt m ρ c⌝ ∗ (((c : Thread nD τ).loc cc0_stg2_0) ↦{fullShare} f)))

set_option maxHeartbeats 800000 in
/-- The body obligation at the one grid point. -/
theorem body_obligation : BodyObligation (dats (F := F) m ρ 0 c) (defs₀ (F := F)) 𝒱₀ () Set.univ := by
  intro t
  rw [fin_N0 t]
  rw [bigSep_W0, bigSep_W0]
  simp only [owns_whole_eq]
  show bodyPre m ρ c ⊢ wp frame (wpE (defs₀ (F := F)) 𝒱₀ (c : Thread nD τ) none) Set.univ (atArgs (cc0_body (F := F))) (fun _ => bodyPost m ρ c)
  unfold bodyPre Dat.owesAt Pipeline.owesWithin
  rw [show (dats m ρ 0 c).Φ t0_0.castSucc = Φ₀ m ρ c from rfl]
  rw [show (dats m ρ 0 c).owed t0_0.castSucc = O₀ c from rfl]
  iintro ⟨HΦ, ⟨%W, %hW, HO⟩, ⟨%d0, %g0, %hg0, Hx⟩, ⟨%d1, %g1, %hg1, Hg⟩, ⟨%d2, %g2, %hg2, Hout⟩⟩
  have hx : g0 = xstg m ρ c := by rw [hg0]; unfold Dat.before; rw [if_pos (fetch0_0 t0_0)]; rfl
  have hr : g1 = rstg m ρ c := by rw [hg1]; unfold Dat.before; rw [if_pos (fetch0_1 t0_0)]; rfl
  rw [hx, hr]
  iapply (sound_body m ρ c g2)
  isplitl [HΦ HO Hx Hg Hout]
  · isplitl [HΦ]; · iexact HΦ
    isplitl [HO]; · (unfold owesE; iexists W; iexact HO)
    isplitl [Hx]; · iexact Hx
    isplitl [Hg] <;> iassumption
  unfold bodyPost Dat.owesAt Pipeline.owesWithin
  rw [show (dats m ρ 0 c).Φ t0_0.succ = Φ₁ m c from rfl]
  rw [show (dats m ρ 0 c).owed t0_0.succ = 0 from rfl]
  iintro ⟨HΦ, HO, Hx, Hg, Hout⟩
  isplitl [HΦ]; · iexact HΦ
  isplitl [HO]
  · unfold owesE
    rw [Ol_nil]
    icases HO with ⟨%W', HO⟩
    iexists W'
    isplitr; · ipureintro; exact fun _ _ => Or.inl trivial
    iexact HO
  isplitl [Hx]
  · iexists _; isplitr; · ipureintro; rfl
    iexact Hx
  isplitl [Hg]
  · iexists _; isplitr; · ipureintro; rfl
    iexact Hg
  iexists _; isplitr; · ipureintro; rfl
  iexact Hout

end Cert.ExchangeProof

end
-- ==== Proof.Run.lean ====
/-
# `Run`: the launch of the exchange and the kernel's run over any float values
-/
module

public import proofs.«01_k».proof.Proof.Main
public import Idealize.ShloMosaic.Lib.Pipeline.CollectiveSegs

@[expose] public section

set_option maxRecDepth 16384

noncomputable section

namespace Cert.ExchangeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of the launch -/

/-- The kernel's own semaphores: the eight of the exchange and the four of the local copies. -/
abbrev osem : Fin 12 → SemLoc sig := fun
  | 0 => csem 1 | 1 => csem 2 | 2 => csem 3 | 3 => csem 4 | 4 => csem 5 | 5 => csem 6 | 6 => csem 7 | 7 => csem 8
  | 8 => .dma loc00.sem | 9 => .dma loc01.sem | 10 => .dma loc10.sem | 11 => .dma loc11.sem

set_option backward.proofsInPublic true in
theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 9 → GSem nD τ sig) := by
  rintro ⟨c, k⟩ ⟨c', k'⟩ h
  have h1 : c = c' := congrArg (fun g : GSem nD τ sig => g.1.1) h
  have h2 : k = k' := csem_injective (congrArg Prod.snd h)
  subst h1; subst h2; rfl
def ringCells : Finset (GSem nD τ sig) := Finset.univ.map ⟨kcell, kcell_injective⟩

abbrev tokOf (ck : Dev nD × Fin 9) : GSem nD τ sig × ℕ × Unit := (kcell ck, 0, ())
theorem tokOf_injective : Function.Injective tokOf := fun a b h => kcell_injective (congrArg Prod.fst h)
def ringToks : Finset (GSem nD τ sig × ℕ × Unit) := Finset.univ.map ⟨tokOf, tokOf_injective⟩

/-- The launch element: the staging pipeline's cells, the exchange's cells. -/
def u₀ : UU := (initOf (Pipeline.cells cfgs cellOf_inj) (Pipeline.launchToks cfgs cellOf_inj), (initOf ringCells ringToks, (1 : Counters)))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of device `c`'s own cells. -/
def toks (c : Dev nD) : sProp 𝕄 := bigSep Finset.univ fun k : Fin 9 => tok c k

/-- What the launch element deals device `c`. -/
def G (c : Dev nD) : sProp 𝕄 :=
  iprop((bigSep Finset.univ fun k : Fin 9 => roundState ER (exRd m ρ) (kcell (c, k)) 0)
    ∗ (bigSep Finset.univ fun k : Fin 9 => iprop(pos c k ∗ reached ER (kcell (c, k)) 0)) ∗ toks c)

/-- What the global step makes of it. -/
def G' (c : Dev nD) : sProp 𝕄 := iprop((∃ K, records m ρ K) ∗ linear c ∗ locals c)

theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (exRd m ρ) ringCells ringToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(zer c 1 ∗ zer c 2 ∗ zer c 3 ∗ zer c 4 ∗ zer c 5 ∗ zer c 6 ∗ zer c 7 ∗ zer c 8 ∗ locals c) := by
  rw [Pipeline.ownSems0_eq_of_list c osem [0, 1, 2, 3, 4, 5, 6, 7, 8, 9, 10, 11] (by decide) (by decide)]; rfl
theorem unscopedSems0_eq (c : Dev nD) : (unscopedSems0 c : sProp 𝕄) = zer c 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 9 => zer c k) ∗ locals c) : sProp 𝕄) := by
  rw [ownSems0_eq, unscopedSems0_eq, bigSep_fin9]
  iintro ⟨⟨H1, H2, H3, H4, H5, H6, H7, H8, HL⟩, H0⟩
  isplitr [HL]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption
  iexact HL

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ (bigSep Finset.univ fun k => iprop(pos c k ∗ reached ER (kcell (c, k)) 0)) ∗ toks c ∗ locals c) := by
  unfold G
  iintro ⟨Hos, Hus, Hst, Hat, Htok⟩
  ihave Hv := (sems0_eq (F := F) c) $$ [Hos Hus]
  · isplitl [Hos] <;> iassumption
  icases Hv with ⟨Hv, HL⟩
  imod (show iprop((bigSep Finset.univ fun k : Fin 9 => zer c k) ∗ bigSep Finset.univ fun k : Fin 9 => roundState ER (exRd m ρ) (kcell (c, k)) 0)
      ⊢ (|={Set.univ}=> bigSep Finset.univ fun k => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The tokens of the duties device `c` pays. -/
def payToks (c : Dev nD) : sProp 𝕄 :=
  iprop(tok (peer c) 0 ∗ tok c 1 ∗ tok c 2 ∗ tok c 3 ∗ tok c 4 ∗ tok (peer c) 5 ∗ tok (peer c) 6 ∗ tok (peer c) 7 ∗ tok (peer c) 8)

/-- The tokens dealt across the pairs. -/
theorem toks_around : (bigSep Finset.univ fun c : Dev nD => (toks c : sProp 𝕄)) ⊢ bigSep Finset.univ fun c : Dev nD => payToks c := by
  unfold toks payToks
  simp only [bigSep_fin9, bigSep_sep']
  rw [bigSep_univ_equiv swap (fun c : Dev nD => (tok c 0 : sProp 𝕄)),
    bigSep_univ_equiv swap (fun c : Dev nD => (tok c 5 : sProp 𝕄)),
    bigSep_univ_equiv swap (fun c : Dev nD => (tok c 6 : sProp 𝕄)),
    bigSep_univ_equiv swap (fun c : Dev nD => (tok c 7 : sProp 𝕄)),
    bigSep_univ_equiv swap (fun c : Dev nD => (tok c 8 : sProp 𝕄))]
  exact Entails.refl _

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 9 → ℕ) (c : Dev nD) :
    iprop(records m ρ K ∗ (bigSep Finset.univ fun k : Fin 9 => pos c k) ∗ payToks c ∗ locals c) ⊢ G' m ρ c := by
  unfold G' linear payToks
  rw [bigSep_fin9]
  iintro ⟨#HR, Hp, Ht, HL⟩
  isplitr; · iexists K; iexact HR
  isplitl [Hp Ht]
  · isplitl [Hp] <;> iassumption
  iexact HL

theorem regroup :
    (bigSep Finset.univ fun c : Dev nD => iprop((bigSep Finset.univ fun k => iprop(∃ κ : ℕ, cellInv ER (exRd m ρ) κ (kcell (c, k))))
          ∗ (bigSep Finset.univ fun k => iprop(pos c k ∗ reached ER (kcell (c, k)) 0)) ∗ toks c ∗ locals c) : sProp 𝕄)
      ⊢ bigSep Finset.univ (G' m ρ) := by
  rw [bigSep_sep', bigSep_sep', bigSep_sep', ← bigSep_univ_prod (fun ck : Dev nD × Fin 9 => iprop(∃ κ : ℕ, cellInv ER (exRd m ρ) κ (kcell ck))),
    bigSep_congr (s := Finset.univ) (fun (c : Dev nD) _ => bigSep_sep' Finset.univ (fun k : Fin 9 => (pos c k : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok, HL⟩
  ihave HK := (BI.bigSep_exists_pi Finset.univ (fun (ck : Dev nD × Fin 9) (κ : ℕ) => (cellInv ER (exRd m ρ) κ (kcell ck) : sProp 𝕄))) $$ HI
  icases HK with ⟨%K, #HI⟩
  ihave Htk := (toks_around (F := F)) $$ Htok
  iapply (with_persistent (R := records m ρ K) fun c _ => ghost_intro m ρ K c)
  isplitr
  · unfold records; isplitl; · iexact HI
    iexact HR
  · rw [bigSep_sep', bigSep_sep']
    isplitl [Hat]; · iexact Hat
    isplitl [Htk] <;> iassumption

/-- Every device's semaphores at once become the exchange's cells. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem tally_at (d c : Dev nD) (j k : Fin 9) :
    tallyAt (kcell (peer d, j)) () (amt j) (kcell (c, k)) () = if d = peer c ∧ k = j then amt j else 0 := by
  rw [tallyAt_apply]
  refine if_congr ⟨fun h => ?_, fun h => ?_⟩ rfl rfl
  · have := kcell_injective h.1
    exact ⟨by rw [(Prod.mk.inj this).1, peer_peer], (Prod.mk.inj this).2⟩
  · rw [h.1, h.2, peer_peer]; exact ⟨rfl, rfl⟩

theorem owed_at (d c : Dev nD) (k : Fin 9) (hk : k ∈ [(0 : Fin 9), 5, 6, 7, 8]) :
    O₀ d (kcell (c, k)) () = if d = peer c then amt k else 0 := by
  unfold O₀
  simp only [Ol_cons, Ol_nil]
  simp only [Pi.add_apply, Finsupp.add_apply, tally_at]
  by_cases h : d = peer c
  · simp only [h, true_and, if_true]
    fin_cases hk <;> simp
  · simp only [h, false_and, if_false]; rfl

theorem launch_at (c : Dev nD) (k : Fin 9) (hk : k ∈ [(0 : Fin 9), 5, 6, 7, 8]) :
    tallyOn (kcell (c, k)) (launchCredit (Pipeline.owing O₀) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same, Finset.sum_congr rfl fun d _ => owed_at d c k hk,
    Finset.sum_ite_eq' Finset.univ (peer c) fun _ => amt k, if_pos (Finset.mem_univ _)]

theorem pick_five (A0 A1 A2 A3 A4 A5 A6 A7 A8 : sProp 𝕄) :
    iprop(A0 ∗ A1 ∗ A2 ∗ A3 ∗ A4 ∗ A5 ∗ A6 ∗ A7 ∗ A8) ⊢ iprop(A0 ∗ A5 ∗ A6 ∗ A7 ∗ A8) := by
  iintro ⟨H0, -, -, -, -, H5, H6, H7, H8⟩
  isplitl [H0]; · iexact H0
  isplitl [H5]; · iexact H5
  isplitl [H6]; · iexact H6
  isplitl [H7] <;> iassumption

theorem creds (c : Dev nD) : (Pipeline.launchCred O₀ c : sProp 𝕄) ⊢ credits c := by
  unfold Pipeline.launchCred credits
  refine (bigSep_subset (Finset.subset_univ (Finset.univ.map ⟨csem, csem_injective⟩))).trans ?_
  rw [bigSep_map, bigSep_fin9]
  simp only [Function.Embedding.coeFn_mk]
  unfold crd
  rw [← launch_at c 0 (by decide), ← launch_at c 5 (by decide), ← launch_at c 6 (by decide), ← launch_at c 7 (by decide), ← launch_at c 8 (by decide)]
  exact pick_five _ _ _ _ _ _ _ _ _

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold start G' arrays
  iintro ⟨Harr, #Hlev, Hcr, -, ⟨%K, #HR⟩, Hlin, Hloc⟩
  ihave Hc := (creds (F := F) c) $$ Hcr
  imodintro
  isplitl
  · isplitr
    · iexists K
      unfold ctx
      isplitr; · iexact HR
      iexact Hlev
    isplitl [Hlin]; · iexact Hlin
    isplitl [Hc]; · iexact Hc
    isplitl [Hloc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop((unscopedSems0 c ∗ arrays m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ closed scratch
  iintro ⟨Hr, ⟨H0, H1, H2, H3, H4, H5, H6, H7, H8⟩, Hloc, Harr⟩
  isplitl [H0 Harr]
  · isplitl [H0] <;> iassumption
  isplitr [Hr]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption
  iexact Hr

theorem waits (c : Dev nD) : (levAts L lv : sProp 𝕄) ⊢ Pipeline.cellsWaits cfgs (dats m ρ) () 0 c :=
  Pipeline.cellsWaits_intro cfgs (dats m ρ) () 0 c fun w s t => by
    have hz : lvS (.dma ((win0 w).sem s)) = 0 := by fin_cases w <;> fin_cases s <;> rfl
    rcases t with ⟨_ | _, ht⟩
    · exact mayWait_of c _ [0, 5, 6, 7, 8] (fun j hj => by rw [hz]; fin_cases hj <;> decide)
    · exact mayWait_of c _ [] (fun j hj => nomatch hj)

/-! ## The run -/

/-- What a final memory reads on device `c`: the windows' arrays as the pipeline leaves them, the weights unchanged. -/
def Final (c : Dev nD) (s : MemSt nD τ sig (Elt F)) : Prop :=
  (∀ w : Fin cfg0.W, s.mem ((cfg0.win w).arr.view.loc (c : Thread nD τ)) = (dats m ρ 0 c).arrAt w cfg0.N)
    ∧ s.mem ((c : Thread nD τ).loc main_arg2) = m ((c : Thread nD τ).loc main_arg2)
    ∧ s.mem ((c : Thread nD τ).loc main_arg3) = m ((c : Thread nD τ).loc main_arg3)

theorem read_final (c : Dev nD) (s' : Phys nD τ sig (Elt F)) :
    iprop((unscopedSems0 c ∗ arrays m c) ∗ emp ∗ SI s')
      ⊢ (|={Set.univ}=> iprop(⌜(∀ sm : SemLoc sig, sm.isScoped .tc = false → s'.mem.sem ((c.tc : Thread nD τ), sm) = 0)
          ∧ s'.mem.mem ((c : Thread nD τ).loc main_arg2) = m ((c : Thread nD τ).loc main_arg2)
          ∧ s'.mem.mem ((c : Thread nD τ).loc main_arg3) = m ((c : Thread nD τ).loc main_arg3)⌝ ∗ SI s') : sProp 𝕄) := by
  unfold arrays
  iintro ⟨⟨Hu, H2, H3⟩, -, HSI⟩
  ihave %h2 := SI_pointsTo_agree $$ [HSI H2]
  · isplitl [HSI] <;> iassumption
  ihave %h3 := SI_pointsTo_agree $$ [HSI H3]
  · isplitl [HSI] <;> iassumption
  imod (Pipeline.unscopedSems0_read (X := unscopedSems0 c) (c := c) fupd_intro s') $$ [Hu HSI] with ⟨%hu, HSI⟩
  · isplitl [Hu] <;> iassumption
  imodintro
  isplitr
  · ipureintro
    exact ⟨hu, funext fun i => h2 i (Finset.mem_univ i), funext fun i => h3 i (Finset.mem_univ i)⟩
  iexact HSI

/-- Over any float values, from any memory with zero counters: every weakly fair execution of the sixteen kernels ends, each
    device's arrays as `Final` says and every semaphore counter at zero. -/
theorem run_final : θ_run defs (onTc (τ := τ) (main (F := F))) (s₀ m ρ) (fun r => (∀ c, Final m ρ c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_split _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => iprop(unscopedSems0 c ∗ arrays m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := read_final m)
    (hQ := fun _ h hs => ⟨fun c => ⟨fun w => (h c).1 w, (h c).2.2.2⟩, sem_eq_zero hs fun c => (h c).2.2.1⟩)

end Cert.ExchangeProof

end
-- ==== Proof.Frames.lean ====
/-
# `Frames`: the kernel's result and its arguments after the run
-/
module

public import proofs.«01_k».proof.Proof.Run
public import Idealize.ShloMosaic.Lib.Pipeline.ValueKit
public import proofs.«01_k».proof.Defs
public import proofs.«01_k».proof.Proof.Gen.Kernel
public import proofs.«01_k».proof.Proof.Gen.ReferenceIdeal
public import proofs.«01_k».proof.Proof.Gen.ReferenceIdeal.Run

@[expose] public section

set_option maxRecDepth 16384

noncomputable section

namespace Cert.ExchangeProof

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The result array ends holding the body's result: its one block is the whole array. -/
theorem final_out (c : Dev nD) : (dats m ρ 0 c).arrAt (2 : Fin 3) cfg0.N = outAt m ρ c := by
  refine (dats m ρ 0 c).arrAt_eq_of_after_last (2 : Fin 3) t0_0 (by decide +kernel) _ fun j => ?_
  blk_simp
  rfl

/-- The four argument arrays and the result array at a final memory. -/
theorem final_args (c : Dev nD) (s : MemSt nD τ sig (Elt F)) (h : Final m ρ c s) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3) :=
  ⟨(h.1 0).trans ((dats m ρ 0 c).arrAt_in 0 rfl _), (h.1 1).trans ((dats m ρ 0 c).arrAt_in 1 rfl _), h.2⟩

/-- Over any float values the run ends with the arguments unchanged and every counter at zero. -/
theorem run_args : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => final_args m ρ c r.2 (h.1 c), h.2⟩) (run_final m ρ)

/-- The two programs' kernels are one. -/
theorem defs₀_eq : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => rfl

theorem defs_eq : Cert.Kernel.defs (F := F) = Cert.KernelIdeal.defs (F := F) := by
  unfold Cert.Kernel.defs Cert.KernelIdeal.defs
  exact congrArg (Pipeline.defs _) defs₀_eq

/-- The kernel as printed runs, leaves its arguments and every counter as launched. -/
theorem frame_kernel : Cert.quiescent_Kernel := fun m ρ _ => by
  rw [defs_eq]
  exact run_args (F := Bits) m ρ

/-- The idealised kernel likewise. -/
theorem frame_ideal : Cert.quiescent_KernelIdeal := fun m ρ _ => run_args (F := Ideal) m ρ

/-- The reference runs, leaves its arguments as launched; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.ExchangeProof

end
-- ==== Proof.Top.lean ====
/-
# `Top`: the two greatest of eight, and the weights they carry

A token has eight gates. The reference sorts them and takes the first two; the kernel takes a maximum, finds the
first place that holds it, masks it out and does the same again. Both find the same two places, which `TopTwo`
describes without saying how they are found.
-/
module

public import Idealize.ShloMosaic.Lib.SortFacts
public import Idealize.ShloMosaic.Lib.SortNet.Extract
public import Idealize.ShloMosaic.PureOps.Ideal.Laws
public import Idealize.ShloMosaic.Lib.IdealHost

@[expose] public section

noncomputable section

namespace Cert.ExchangeProof

open Idealize.ShloMosaic

/-- `i` is the first place of the greatest of eight values and `j` the first place of the greatest of the others. -/
structure TopTwo (g : Fin 8 → EReal) (i j : Fin 8) : Prop where
  ne : j ≠ i
  top : ∀ e, g e ≤ g i
  first : ∀ e, e < i → g e < g i
  next : ∀ e, e ≠ i → g e ≤ g j
  second : ∀ e, e ≠ i → e < j → g e < g j

/-! ## By a stable sort -/

/-- Place `a` comes before place `b` in a stable descending sort: its value is greater, or equal and it is earlier. -/
def Ahead (g : Fin 8 → EReal) (a b : Fin 8) : Prop := g b < g a ∨ (g b = g a ∧ a < b)

theorem Ahead.trans {g : Fin 8 → EReal} {a b c : Fin 8} (h : Ahead g a b) (h' : Ahead g b c) : Ahead g a c := by
  unfold Ahead at *
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- The sort's test: the first value is strictly greater. -/
def gtBit (g : Fin 8 → EReal) (a b : Fin 8) : Bool := Ideal.cmp .ogt (g a) (g b) == 1#1

theorem gtBit_iff (g : Fin 8 → EReal) (a b : Fin 8) : gtBit g a b = true ↔ g b < g a := by
  unfold gtBit Ideal.cmp
  by_cases h : g b < g a <;> simp [h]

/-- Inserting a place that is earlier than all the others keeps the list sorted. -/
theorem ahead_insert (g : Fin 8 → EReal) (a : Fin 8) (l : List (Fin 8)) (ha : ∀ b ∈ l, a < b)
    (hl : l.Pairwise (Ahead g)) : (insertBefore (gtBit g) a l).Pairwise (Ahead g) := by
  induction l with
  | nil => exact List.pairwise_singleton _ _
  | cons b l ih =>
    have hl' := List.pairwise_cons.mp hl
    unfold insertBefore
    split
    · rename_i h
      refine List.pairwise_cons.mpr ⟨fun c hc => ?_, ih (fun c hc => ha c (List.mem_cons_of_mem b hc)) hl'.2⟩
      rcases List.mem_cons.mp ((perm_insertBefore _ a l).mem_iff.mp hc) with rfl | hc'
      · exact Or.inl ((gtBit_iff g b c).mp h)
      · exact hl'.1 c hc'
    · rename_i h
      have hab : Ahead g a b := by
        have hle : g b ≤ g a := not_lt.mp fun hlt => h ((gtBit_iff g b a).mpr hlt)
        rcases hle.lt_or_eq with h1 | h1
        · exact Or.inl h1
        · exact Or.inr ⟨h1, ha b List.mem_cons_self⟩
      refine List.pairwise_cons.mpr ⟨fun c hc => ?_, hl⟩
      rcases List.mem_cons.mp hc with rfl | hc'
      · exact hab
      · exact hab.trans (hl'.1 c hc')

/-- A stable sort of places in order is sorted by value, and by place among equal values. -/
theorem ahead_sort (g : Fin 8 → EReal) (l : List (Fin 8)) (hl : l.Pairwise (· < ·)) :
    (stableSort (gtBit g) l).Pairwise (Ahead g) := by
  induction l with
  | nil => exact List.Pairwise.nil
  | cons a l ih =>
    have hl' := List.pairwise_cons.mp hl
    unfold stableSort
    exact ahead_insert g a _ (fun b hb => hl'.1 b ((perm_stableSort _ l).mem_iff.mp hb)) (ih hl'.2)

/-- Sorted positions in order. -/
theorem ahead_sorted (g : Fin 8 → EReal) (a b : Fin 8) (h : a < b) :
    Ahead g (sortedFrom (gtBit g) a) (sortedFrom (gtBit g) b) := by
  have hp : ∀ a b : Fin (sortPositions 8 (gtBit g)).length, a < b →
      Ahead g ((sortPositions 8 (gtBit g)).get a) ((sortPositions 8 (gtBit g)).get b) :=
    List.pairwise_iff_get.mp (ahead_sort g (List.finRange 8) (List.pairwise_lt_finRange 8))
  unfold sortedFrom
  exact hp _ _ (by simp only [Fin.lt_def, Fin.val_cast]; exact h)

/-- A place other than the one sorted to `k`, and not sorted before it, is behind it. -/
theorem ahead_rest (g : Fin 8 → EReal) (k e : Fin 8) (h : ∀ k' ≤ k, sortedFrom (gtBit g) k' ≠ e) :
    Ahead g (sortedFrom (gtBit g) k) e := by
  obtain ⟨k', rfl⟩ := sortedFrom_surjective (gtBit g) e
  exact ahead_sorted g k k' (not_le.mp fun hle => h k' hle rfl)

/-- The first two of the stable sort are the two greatest. -/
theorem topTwo_sorted (g : Fin 8 → EReal) : TopTwo g (sortedFrom (gtBit g) 0) (sortedFrom (gtBit g) 1) := by
  have h0 : ∀ e, e ≠ sortedFrom (gtBit g) 0 → Ahead g (sortedFrom (gtBit g) 0) e := fun e he =>
    ahead_rest g 0 e fun k' hk' => by
      obtain rfl : k' = 0 := Fin.le_zero_iff.mp hk'
      exact he.symm
  have h1 : ∀ e, e ≠ sortedFrom (gtBit g) 0 → e ≠ sortedFrom (gtBit g) 1 → Ahead g (sortedFrom (gtBit g) 1) e :=
    fun e he he' => ahead_rest g 1 e fun k' hk' => by
      rcases (show k' = 0 ∨ k' = 1 by omega) with rfl | rfl
      · exact he.symm
      · exact he'.symm
  refine ⟨fun h => absurd (sortedFrom_injective (gtBit g) h) (by decide), fun e => ?_, fun e he => ?_, fun e he => ?_,
    fun e he hlt => ?_⟩
  · by_cases h : e = sortedFrom (gtBit g) 0
    · rw [h]
    · rcases h0 e h with h' | ⟨h', -⟩
      · exact h'.le
      · exact h'.le
  · rcases h0 e he.ne with h' | ⟨-, h'⟩
    · exact h'
    · exact absurd he (not_lt.mpr h'.le)
  · by_cases h : e = sortedFrom (gtBit g) 1
    · rw [h]
    · rcases h1 e he h with h' | ⟨h', -⟩
      · exact h'.le
      · exact h'.le
  · rcases h1 e he hlt.ne with h' | ⟨-, h'⟩
    · exact h'
    · exact absurd hlt (not_lt.mpr h'.le)

/-! ## By two rounds of a maximum -/

/-- The fold of the maximum from the least value is any value that bounds the others. -/
theorem fold_max_eq (g : Fin 8 → EReal) (i : Fin 8) (h : ∀ e, g e ≤ g i) :
    Finset.fold max (⊥ : EReal) g Finset.univ = g i :=
  le_antisymm ((Finset.fold_max_le _).mpr ⟨bot_le, fun e _ => h e⟩)
    (Finset.le_fold_max _ |>.mpr (Or.inr ⟨i, Finset.mem_univ i, le_rfl⟩))

theorem toInt_place : ∀ e : Fin 8, (BitVec.ofNat 32 e.val).toInt = e.val := by decide

/-- The least place that holds the value `v`, found as the least of the places' numbers. -/
theorem fold_first (g : Fin 8 → EReal) (v : EReal) (i : Fin 8) (hi : g i = v) (hf : ∀ e, e < i → g e ≠ v) :
    Finset.fold IntOp.minsi 2147483647#32 (fun x : Fin 8 => if g x = v then BitVec.ofNat 32 x.val else 8#32)
      Finset.univ = BitVec.ofNat 32 i.val := by
  apply BitVec.eq_of_toInt_eq
  have hh := Finset.fold_hom (op := IntOp.minsi) (op' := (min : Int → Int → Int)) (m := BitVec.toInt (n := 32))
    (b := 2147483647#32) (s := Finset.univ)
    (f := fun x : Fin 8 => if g x = v then BitVec.ofNat 32 x.val else 8#32) (fun a b => SortNet.toInt_minsi a b)
  rw [← hh, toInt_place]
  apply le_antisymm
  · refine (Finset.fold_min_le _).mpr (Or.inr ⟨i, Finset.mem_univ i, ?_⟩)
    rw [if_pos hi, toInt_place]
  · refine (Finset.le_fold_min _).mpr ⟨?_, fun e _ => ?_⟩
    · have := i.isLt
      have : (2147483647#32 : BitVec 32).toInt = 2147483647 := by decide
      omega
    · split
      · rename_i h
        rw [toInt_place]
        exact_mod_cast not_lt.mp fun hlt => hf e hlt h
      · have := i.isLt
        have : (8#32 : BitVec 32).toInt = 8 := by decide
        omega

/-- The values with the place `i` masked to the least value. -/
def without (g : Fin 8 → EReal) (i e : Fin 8) : EReal := if e = i then ⊥ else g e

/-- With the greatest masked, the second greatest is the maximum. -/
theorem fold_max_without {g : Fin 8 → EReal} {i j : Fin 8} (h : TopTwo g i j) :
    Finset.fold max (⊥ : EReal) (without g i) Finset.univ = g j := by
  have hj : without g i j = g j := if_neg h.ne
  rw [← hj]
  refine fold_max_eq _ _ fun e => ?_
  rw [hj]
  unfold without
  split
  · exact bot_le
  · rename_i he
    exact h.next e he

/-- With the greatest masked, the first place that holds the maximum is the second greatest's. -/
theorem fold_first_without {g : Fin 8 → EReal} {i j : Fin 8} (h : TopTwo g i j) (hg : ∀ e, g e ≠ ⊥) :
    Finset.fold IntOp.minsi 2147483647#32 (fun x : Fin 8 => if without g i x = g j then BitVec.ofNat 32 x.val else 8#32)
      Finset.univ = BitVec.ofNat 32 j.val := by
  refine fold_first _ _ _ (if_neg h.ne) fun e he => ?_
  unfold without
  split
  · exact fun h' => hg j h'.symm
  · rename_i hne
    exact (h.second e hne he).ne

/-! ## The weights -/

/-- The greatest's exponential over itself is one, the second's is `exp (second - greatest)`. -/
def ratio (g : Fin 8 → EReal) (i j : Fin 8) : EReal := Ideal.exp (g j - g i)

/-- The greatest's weight. -/
def wTop (g : Fin 8 → EReal) (i j : Fin 8) : EReal := Ideal.div 1 (1 + ratio g i j)

/-- The second's weight. -/
def wNext (g : Fin 8 → EReal) (i j : Fin 8) : EReal := Ideal.div (ratio g i j) (1 + ratio g i j)

/-- The weight of each of the eight: zero but at the two greatest. -/
def weight (g : Fin 8 → EReal) (i j e : Fin 8) : EReal :=
  (if e = i then wTop g i j else 0) + (if e = j then wNext g i j else 0)

/-- A value is a real number. -/
def IsReal (x : EReal) : Prop := ∃ r : ℝ, x = (r : EReal)

theorem ratio_real {g : Fin 8 → EReal} (hg : ∀ e, IsReal (g e)) (i j : Fin 8) :
    ∃ r : ℝ, 0 < r ∧ ratio g i j = (r : EReal) := by
  obtain ⟨a, ha⟩ := hg i
  obtain ⟨b, hb⟩ := hg j
  refine ⟨Real.exp (b - a), Real.exp_pos _, ?_⟩
  unfold ratio
  rw [ha, hb, ← EReal.coe_sub]
  rfl

/-- A quotient of reals with positive divisor is real, and not negative if the dividend is not. -/
theorem div_real {a b : ℝ} (ha : 0 ≤ a) (hb : 0 < b) :
    ∃ r : ℝ, 0 ≤ r ∧ Ideal.div (a : EReal) (b : EReal) = (r : EReal) := by
  refine ⟨a * b⁻¹, mul_nonneg ha (inv_nonneg.mpr hb.le), ?_⟩
  unfold Ideal.div
  rw [if_neg (by exact_mod_cast hb.ne'), EReal.coe_mul, EReal.coe_inv]

theorem wTop_real {g : Fin 8 → EReal} (hg : ∀ e, IsReal (g e)) (i j : Fin 8) :
    ∃ r : ℝ, 0 ≤ r ∧ wTop g i j = (r : EReal) := by
  obtain ⟨r, hr, h⟩ := ratio_real hg i j
  unfold wTop
  rw [h]
  exact_mod_cast div_real (a := 1) zero_le_one (add_pos zero_lt_one hr)

theorem wNext_real {g : Fin 8 → EReal} (hg : ∀ e, IsReal (g e)) (i j : Fin 8) :
    ∃ r : ℝ, 0 ≤ r ∧ wNext g i j = (r : EReal) := by
  obtain ⟨r, hr, h⟩ := ratio_real hg i j
  unfold wNext
  rw [h]
  exact_mod_cast div_real hr.le (add_pos zero_lt_one hr)

/-- Every weight is a real number that is not negative. -/
theorem weight_real {g : Fin 8 → EReal} (hg : ∀ e, IsReal (g e)) (i j e : Fin 8) :
    ∃ r : ℝ, 0 ≤ r ∧ weight g i j e = (r : EReal) := by
  obtain ⟨a, ha, h⟩ := wTop_real hg i j
  obtain ⟨b, hb, h'⟩ := wNext_real hg i j
  unfold weight
  rw [h, h']
  refine ⟨(if e = i then a else 0) + (if e = j then b else 0), ?_, ?_⟩
  · split <;> split <;> positivity
  · split <;> split <;> simp

/-- The sum over the eight of values times weights is the two greatest's. -/
theorem sum_weight {g : Fin 8 → EReal} {i j : Fin 8} (h : j ≠ i) (y : Fin 8 → EReal) :
    ∑ e, y e * weight g i j e = y i * wTop g i j + y j * wNext g i j := by
  have hs : ∀ e, y e * weight g i j e
      = (if e = i then y i * wTop g i j else 0) + (if e = j then y j * wNext g i j else 0) := by
    intro e
    unfold weight
    by_cases hi : e = i
    · subst hi
      rw [if_pos rfl, if_pos rfl, if_neg h.symm, if_neg h.symm, add_zero, add_zero]
    · by_cases hj : e = j
      · subst hj
        rw [if_neg hi, if_neg hi, if_pos rfl, if_pos rfl, zero_add, zero_add]
      · rw [if_neg hi, if_neg hi, if_neg hj, if_neg hj, add_zero, mul_zero]
  simp only [hs, Finset.sum_add_distrib, Finset.sum_ite_eq', Finset.mem_univ, if_true]

end Cert.ExchangeProof
-- ==== Proof.RefValue.lean ====
/-
# `RefValue`: the reference's result at a token and a column
-/
module

public import Idealize.ShloMosaic.Lib.Pointwise
public import proofs.«01_k».proof.Proof.Gen.ReferenceIdeal
public import proofs.«01_k».proof.Proof.Gen.ReferenceIdeal.Run
public import proofs.«01_k».proof.Proof.Top

@[expose] public section

set_option maxRecDepth 16384

noncomputable section

namespace Cert.ExchangeProof

open Cert.ReferenceIdeal Cert.ReferenceIdeal.Gen
open Idealize.ShloMosaic

/-- The gate of token `t` for expert `e`: the token's row times the router's column. -/
def gate (X : S1024x1024.Idx → EReal) (R : S1024x8.Idx → EReal) (t : Fin 1024) (e : Fin 8) : EReal :=
  ∑ k : Fin 1024, X (ix2 t k) * R (ix2 k e)

/-- The gates as the reference computes them. -/
def gateVec (X : FVec Ideal S1024x1024 .f32) (R : FVec Ideal S1024x8 .f32) : FVec Ideal S1024x8 .f32 :=
  Host.dotGeneral dot_S1024x1024_S1024x8_S1024x8_1_0_0_1_n_n none X R

/-- A hidden unit of expert `e` at token `t`: the rectified product. -/
def hidden (X : S1024x1024.Idx → EReal) (W1 : S8x1024x2048.Idx → EReal) (e : Fin 8) (t : Fin 1024) (h : Fin 2048) : EReal :=
  max (∑ k : Fin 1024, X (ix2 t k) * W1 (ix3 e k h)) 0

/-- Expert `e`'s output at token `t`, column `d`. -/
def expert (X : S1024x1024.Idx → EReal) (W1 : S8x1024x2048.Idx → EReal) (W2 : S8x2048x1024.Idx → EReal)
    (t d : Fin 1024) (e : Fin 8) : EReal :=
  ∑ h : Fin 2048, hidden X W1 e t h * W2 (ix3 e h d)

/-- The layer's result at token `t`, column `d`: the experts' outputs times their weights. -/
def layer (X : S1024x1024.Idx → EReal) (R : S1024x8.Idx → EReal) (W1 : S8x1024x2048.Idx → EReal)
    (W2 : S8x2048x1024.Idx → EReal) (t d : Fin 1024) : EReal :=
  ∑ e, expert X W1 W2 t d e
    * weight (gate X R t) (sortedFrom (gtBit (gate X R t)) 0) (sortedFrom (gtBit (gate X R t)) 1) e

/-- Moving along a row of the gates. -/
theorem along_row (t : Fin 1024) (a b : Fin 8) : (ix2 t a : S1024x8.Idx).along 1 b = ix2 t b := by
  funext d
  match d with
  | ⟨0, _⟩ => rfl
  | ⟨1, _⟩ => rfl

/-- The `s`-th greatest's value, as the reference's sort finds it. -/
theorem topK_value (x : S1024x8.Idx → EReal) (t : Fin 1024) (s : Fin 2) :
    (Host.topK (s := S1024x8) S1024x2 1 (FloatOps.cmpfTotal (F := Ideal) (φ := .f32) .gt) x sliceFits_S1024x8_S1024x2).1 (ix2 t s)
      = x (ix2 t (sortedFrom (gtBit fun e => x (ix2 t e)) (s.castLE (by decide)))) := by
  unfold Host.topK Host.sort2
  pointwise
  simp only [along_row]
  rfl

/-- The `s`-th greatest's place, as the reference's sort finds it. -/
theorem topK_place (x : S1024x8.Idx → EReal) (t : Fin 1024) (s : Fin 2) :
    (Host.topK (s := S1024x8) S1024x2 1 (FloatOps.cmpfTotal (F := Ideal) (φ := .f32) .gt) x sliceFits_S1024x8_S1024x2).2 (ix2 t s)
      = BitVec.ofNat 32 (sortedFrom (gtBit fun e => x (ix2 t e)) (s.castLE (by decide))).val := by
  unfold Host.topK Host.sort2
  pointwise
  simp only [along_row]
  rfl

/-- The bit pattern the reductions start from denotes the least value. -/
theorem neg_inf : Ideal.ofBits FTy.f32 0xFF800000#32 = ⊥ := by
  simp [Ideal.ofBits, Ideal.ieee]

/-- A comparison of two places' numbers. -/
theorem place_eq (a e : Fin 8) :
    IntOp.cmpi CmpIPredicate.eq (BitVec.ofNat 32 a.val) (BitVec.ofNat 32 e.val) = if e = a then 1#1 else 0#1 := by
  revert a e
  decide

/-- A real number less itself is zero, whose exponential is one. -/
theorem exp_sub_self {x : EReal} (h : IsReal x) : Ideal.exp (x - x) = 1 := by
  obtain ⟨r, rfl⟩ := h
  rw [← EReal.coe_sub, sub_self]
  show ((Real.exp 0 : ℝ) : EReal) = 1
  rw [Real.exp_zero, EReal.coe_one]

/-- One of the two sums over the experts keeps the chosen expert only. -/
theorem sum_chosen (a : Fin 8) (y : Fin 8 → EReal) (w : EReal) :
    ∑ e : Fin 8, Scalar.select (IntOp.cmpi CmpIPredicate.eq (BitVec.ofNat 32 a.val) (BitVec.ofNat 32 e.val)) (y e * w) 0
      = y a * w := by
  have hs : ∀ e : Fin 8,
      Scalar.select (IntOp.cmpi CmpIPredicate.eq (BitVec.ofNat 32 a.val) (BitVec.ofNat 32 e.val)) (y e * w) 0
        = if e = a then y a * w else 0 := by
    intro e
    rw [place_eq]
    by_cases h : e = a
    · subst h
      rw [if_pos rfl, if_pos rfl]
      rfl
    · rw [if_neg h, if_neg h]
      rfl
  simp only [hs, Finset.sum_ite_eq', Finset.mem_univ, if_true]

/-- The reference's result is the layer's, where the gates are real numbers. -/
theorem ref_value (m : (ℓ : Loc nD τ sig) → Buf (Elt Ideal) ℓ) (c : Dev nD) (t d : Fin 1024)
    (hg : ∀ e, IsReal (gate (m ((c.tc : Thread nD τ).loc main_arg0)) (m ((c.tc : Thread nD τ).loc main_arg1)) t e)) :
    Cert.ReferenceIdeal.Value.res_main_v41 (F := Ideal) m c (ix2 t d)
      = layer (m ((c.tc : Thread nD τ).loc main_arg0)) (m ((c.tc : Thread nD τ).loc main_arg1))
          (m ((c.tc : Thread nD τ).loc main_arg2)) (m ((c.tc : Thread nD τ).loc main_arg3)) t d := by
  unfold Cert.ReferenceIdeal.Value.res_main_v41
  set X : S1024x1024.Idx → EReal := m ((c.tc : Thread nD τ).loc main_arg0) with hX
  set R : S1024x8.Idx → EReal := m ((c.tc : Thread nD τ).loc main_arg1) with hR
  set W1 : S8x1024x2048.Idx → EReal := m ((c.tc : Thread nD τ).loc main_arg2) with hW1
  set W2 : S8x2048x1024.Idx → EReal := m ((c.tc : Thread nD τ).loc main_arg3) with hW2
  clear_value X R W1 W2
  have hgate : ∀ e, gateVec X R (ix2 t e) = gate X R t e := by
    intro e
    pointwise [gate, gateVec]
  have hv := topK_value (gateVec X R) t
  have hp := topK_place (gateVec X R) t
  simp only [hgate] at hv hp
  unfold gateVec at hv hp
  revert hv hp
  generalize (Host.topK S1024x2 1 _ _ _ : (S1024x2.Idx → Ideal .f32) × IVec S1024x2 32) = vi
  intro hv hp
  pointwise
  have hT := topTwo_sorted (gate X R t)
  set i := sortedFrom (gtBit (gate X R t)) 0 with hi
  set j := sortedFrom (gtBit (gate X R t)) 1 with hj
  have hv0 : vi.1 (ix2 t 0) = gate X R t i := hv 0
  have hv1 : vi.1 (ix2 t 1) = gate X R t j := hv 1
  have hp0 : vi.2 (ix2 t 0) = BitVec.ofNat 32 i.val := hp 0
  have hp1 : vi.2 (ix2 t 1) = BitVec.ofNat 32 j.val := hp 1
  have hM : Finset.fold max (Ideal.ofBits FTy.f32 0xFF800000#32) (fun x : Fin 2 => vi.1 (ix2 t x)) Finset.univ
      = gate X R t i := by
    rw [neg_inf]
    apply le_antisymm
    · refine (Finset.fold_max_le _).mpr ⟨bot_le, fun e _ => ?_⟩
      rw [hv]
      exact hT.top _
    · exact (Finset.le_fold_max _).mpr (Or.inr ⟨0, Finset.mem_univ _, hv0.ge⟩)
  have hz : id (constant (F := Ideal) S_ FTy.f32 0#32) ix0 = (0 : EReal) := Ideal.ofBits_zero_f32
  have hy : ∀ x : Fin 8, (∑ h : Fin 2048, max (∑ k : Fin 1024, W1 (ix3 x k h) * X (ix2 t k)) 0 * W2 (ix3 x h d))
      = expert X W1 W2 t d x := by
    intro x
    unfold expert hidden
    simp only [mul_comm (W1 _) (X _)]
  rw [hM, hz, Fin.sum_univ_two, hv0, hv1, hp0, hp1, exp_sub_self (hg i)]
  simp only [hy]
  rw [sum_chosen, sum_chosen]
  exact (sum_weight hT.ne (expert X W1 W2 t d)).symm

end Cert.ExchangeProof
-- ==== Proof.RouterValue.lean ====
/-
# `RouterValue`: the weights a device computes for its own tokens
-/
module

public import Idealize.ShloMosaic.Lib.Pointwise
public import proofs.«01_k».proof.Proof.Protocol
public import proofs.«01_k».proof.Proof.RefValue

@[expose] public section

set_option maxRecDepth 16384

noncomputable section

namespace Cert.ExchangeProof

open Cert.KernelIdeal Cert.KernelIdeal.Gen
open Idealize.ShloMosaic

section Router

variable (v2 : BitVec 32) (x : FVec Ideal S512x1024 .f32) (u : FVec Ideal S512x4 .f32) (r : Vec Ideal S1024x4 .f32)
variable (t : Fin 512) (g : Fin 8 → EReal) (i j : Fin 8)

/-- The masked gates. -/
theorem masked_apply (hg : ∀ e, k0_pay6 v2 x u r (ix2 t e) = g e)
    (hm : ∀ e, k0_pay8 v2 x u r (ix2 t e) = if e = i then 1#1 else 0#1) (e : Fin 8) :
    k0_pay9 v2 x u r (ix2 t e) = without g i e := by
  pointwise [k0_pay9]
  rw [hm, hg]
  unfold without
  split
  · exact neg_inf
  · rfl

/-- The row's maximum. -/
theorem max_apply (hg : ∀ e, k0_pay6 v2 x u r (ix2 t e) = g e) (h : TopTwo g i j) :
    k0_pay7 v2 x u r (ix2 t 0) = g i := by
  pointwise [k0_pay7]
  simp only [hg]
  rw [neg_inf]
  exact fold_max_eq g i h.top

/-- The mask of the first place that holds the maximum. -/
theorem mask_apply (hg : ∀ e, k0_pay6 v2 x u r (ix2 t e) = g e) (h : TopTwo g i j) (e : Fin 8) :
    k0_pay8 v2 x u r (ix2 t e) = if e = i then 1#1 else 0#1 := by
  pointwise [k0_pay8]
  simp only [hg, max_apply v2 x u r t g i j hg h]
  rw [fold_first g (g i) i rfl fun e he => (h.first e he).ne, place_eq]
  simp only [eq_comm]

/-- The maximum of the masked row. -/
theorem max_masked_apply (hg : ∀ e, k0_pay6 v2 x u r (ix2 t e) = g e) (h : TopTwo g i j) :
    k0_pay10 v2 x u r (ix2 t 0) = g j := by
  pointwise [k0_pay10]
  simp only [masked_apply v2 x u r t g i hg (mask_apply v2 x u r t g i j hg h)]
  rw [neg_inf]
  exact fold_max_without h

/-- The mask of the second place. -/
theorem mask_second_apply (hg : ∀ e, k0_pay6 v2 x u r (ix2 t e) = g e) (h : TopTwo g i j) (hr : ∀ e, IsReal (g e))
    (e : Fin 8) : k0_pay11 v2 x u r (ix2 t e) = if e = j then 1#1 else 0#1 := by
  pointwise [k0_pay11]
  simp only [masked_apply v2 x u r t g i hg (mask_apply v2 x u r t g i j hg h),
    max_masked_apply v2 x u r t g i j hg h]
  rw [fold_first_without h fun e => by obtain ⟨a, ha⟩ := hr e; rw [ha]; exact EReal.coe_ne_bot a, place_eq]
  simp only [eq_comm]

/-- The weights stored for the partner: those of the two greatest gates. -/
theorem weights_apply (hg : ∀ e, k0_pay6 v2 x u r (ix2 t e) = g e) (h : TopTwo g i j) (hr : ∀ e, IsReal (g e))
    (e : Fin 8) :
    k0_pay15 (k0_pay11 v2 x u r) (k0_pay13 v2 x u r) (Scalar.ofBits .f32 0x00000000#32) (k0_pay14 v2 x u r)
      (ix3 0 t e) = weight g i j e := by
  pointwise [k0_pay15, k0_pay13, k0_pay14, k0_pay12]
  rw [mask_second_apply v2 x u r t g i j hg h hr, mask_apply v2 x u r t g i j hg h,
    max_masked_apply v2 x u r t g i j hg h, max_apply v2 x u r t g i j hg h]
  unfold weight wTop wNext ratio
  by_cases h1 : e = i <;> by_cases h2 : e = j <;> simp [h1, h2, Scalar.select]

end Router

end Cert.ExchangeProof
-- ==== Proof.DeviceValue.lean ====
/-
# `DeviceValue`: the kernel's result at a token and a column

Device `c` holds rows `512 (c / 8) …` of the tokens, columns `4 (c / 8) …` of the router and the experts
`4 (c / 8) …`: `Blocks` says so by coordinates. From it the two devices of a pair compute the weights of all the
tokens, each sums its own experts' part, and the two parts added are the layer's result.
-/
module

public import proofs.«01_k».proof.Proof.RouterValue
public import Idealize.ShloMosaic.Lib.Pipeline.ValueKit

@[expose] public section

set_option maxRecDepth 16384

noncomputable section

namespace Cert.ExchangeProof

open Cert.KernelIdeal Cert.KernelIdeal.Gen
open Idealize.ShloMosaic Idealize.ShloMosaic.TcCoe

/-- A device's first mesh coordinate. -/
def coord (c : Dev nD) : Fin 2 := ⟨c.val / 8, by have : c.val < 16 := c.isLt; omega⟩

/-- A token of the whole batch by the device coordinate that holds it and its row there. -/
def tokAt (s : Fin 2) (t : Fin 512) : Fin 1024 := ⟨512 * s.val + t.val, by omega⟩

/-- An expert by the device coordinate that holds it and its number there. -/
def ex (s : Fin 2) (e : Fin 4) : Fin 8 := ⟨4 * s.val + e.val, by omega⟩

/-- A hidden unit by its half and its place there. -/
def unit (b : Fin 2) (h : Fin 1024) : Fin 2048 := ⟨1024 * b.val + h.val, by omega⟩

theorem coord_peer (c : Dev nD) : coord (peer c) = 1 - coord c := by revert c; decide
theorem coord_pair (c : Dev nD) (s : Fin 2) : coord (pairDev c s.val) = s := by revert c s; decide
theorem v2w_eq (c : Dev nD) : v2w c = BitVec.ofNat 32 (coord c).val := by revert c; decide

variable (m : (ℓ : Loc nD τ sig) → Buf (Elt Ideal) ℓ) (ρ : Dev nD → PrngReg)
variable (X : S1024x1024.Idx → EReal) (R : Cert.ReferenceIdeal.S1024x8.Idx → EReal)
variable (W1 : Cert.ReferenceIdeal.S8x1024x2048.Idx → EReal) (W2 : Cert.ReferenceIdeal.S8x2048x1024.Idx → EReal)

/-- The devices' arguments are the blocks of the four whole arrays. -/
structure Blocks : Prop where
  x : ∀ (c : Dev nD) (t : Fin 512) (k : Fin 1024),
    m ((c : Thread nD τ).loc main_arg0) (ix2 t k) = X (ix2 (tokAt (coord c) t) k)
  r : ∀ (c : Dev nD) (k : Fin 1024) (e : Fin 4),
    m ((c : Thread nD τ).loc main_arg1) (ix2 k e) = R (ix2 k (ex (coord c) e))
  w1 : ∀ (c : Dev nD) (e : Fin 4) (k : Fin 1024) (h : Fin 2048),
    m ((c : Thread nD τ).loc main_arg2) (ix3 e k h) = W1 (ix3 (ex (coord c) e) k h)
  w2 : ∀ (c : Dev nD) (e : Fin 4) (h : Fin 2048) (k : Fin 1024),
    m ((c : Thread nD τ).loc main_arg3) (ix3 e h k) = W2 (ix3 (ex (coord c) e) h k)

/-- A token's weights. -/
def tokWeight (T : Fin 1024) (e : Fin 8) : EReal :=
  weight (gate X R T) (sortedFrom (gtBit (gate X R T)) 0) (sortedFrom (gtBit (gate X R T)) 1) e

/-- The token block is staged whole. -/
theorem xstg_eq (c : Dev nD) (i : S512x1024.Idx) : xstg m ρ c i = m ((c : Thread nD τ).loc main_arg0) i := by
  unfold xstg
  blk_simp
  refine congrArg (m ((c : Thread nD τ).loc main_arg0)) (funext fun a => Fin.ext ?_)
  match a with
  | ⟨0, _⟩ => simp [win0_0]; rfl
  | ⟨1, _⟩ => simp [win0_0]; rfl

/-- The router block is staged whole. -/
theorem rstg_eq (c : Dev nD) (i : S1024x4.Idx) : rstg m ρ c i = m ((c : Thread nD τ).loc main_arg1) i := by
  unfold rstg
  blk_simp
  refine congrArg (m ((c : Thread nD τ).loc main_arg1)) (funext fun a => Fin.ext ?_)
  match a with
  | ⟨0, _⟩ => simp [win0_1]; rfl
  | ⟨1, _⟩ => simp [win0_1]; rfl

variable {m X R W1 W2}

/-- The device's gates, its own router columns and its partner's put in order, are the whole router's. -/
theorem gates_apply (hB : Blocks m X R W1 W2) (c : Dev nD) (t : Fin 512) (e : Fin 8) :
    k0_pay6 (v2w c) (k0_pay4 (xstg m ρ c)) (k0_pay5 (xstg m ρ c) (rstg m ρ c)) (rstg m ρ (peer c)) (ix2 t e)
      = gate X R (tokAt (coord c) t) e := by
  pointwise [k0_pay6, k0_pay5, k0_pay4]
  simp only [xstg_eq, rstg_eq, hB.x, hB.r, coord_peer, v2w_eq]
  unfold gate
  generalize coord c = s
  have hs : s = 0 ∨ s = 1 := by omega
  rcases hs with rfl | rfl
  · rw [show Scalar.cmpi CmpIPredicate.eq (BitVec.ofNat 32 (0 : Fin 2).val) 0#32 = 1#1 from by decide]
    show (if h : _ then _ else _) = _
    split
    · rename_i h
      rw [show ex 0 ⟨e.val, h⟩ = e from Fin.ext (by simp [ex])]
    · rename_i h
      rw [show ex (1 - 0) ⟨e.val - 4, by omega⟩ = e from Fin.ext (by simp [ex]; omega)]
  · rw [show Scalar.cmpi CmpIPredicate.eq (BitVec.ofNat 32 (1 : Fin 2).val) 0#32 = 0#1 from by decide]
    show (if h : _ then _ else _) = _
    split
    · rename_i h
      rw [show ex (1 - 1) ⟨e.val, h⟩ = e from Fin.ext (by simp [ex])]
    · rename_i h
      rw [show ex 1 ⟨e.val - 4, by omega⟩ = e from Fin.ext (by simp [ex]; omega)]

/-- The weights a device computes are its tokens'. -/
theorem wpay_apply (hB : Blocks m X R W1 W2) (hr : ∀ T e, IsReal (gate X R T e)) (c : Dev nD) (t : Fin 512) (e : Fin 8) :
    wpay m ρ c (ix3 0 t e) = tokWeight X R (tokAt (coord c) t) e := by
  unfold wpay tokWeight
  exact weights_apply _ _ _ _ t (gate X R (tokAt (coord c) t)) _ _ (gates_apply ρ hB c t) (topTwo_sorted _) (hr _) e

theorem tok_low (T : Fin 1024) (h : T.val < 512) : tokAt 0 ⟨T.val, h⟩ = T := Fin.ext (by simp [tokAt])
theorem tok_high (T : Fin 1024) (h : ¬T.val < 512) : tokAt 1 ⟨T.val - 512, by omega⟩ = T := Fin.ext (by simp [tokAt]; omega)

/-- The pair's tokens are all the tokens. -/
theorem x2_apply (hB : Blocks m X R W1 W2) (c : Dev nD) (T k : Fin 1024) : x2 m ρ c (ix2 T k) = X (ix2 T k) := by
  pointwise [x2, k0_pay18, k0_pay16, k0_pay17, xpay, k0_pay3, k0_pay2]
  simp only [xstg_eq, hB.x]
  have h0 : coord (pairDev c 0) = 0 := coord_pair c 0
  have h1 : coord (pairDev c 1) = 1 := coord_pair c 1
  rw [h0, h1]
  split
  · rename_i h
    rw [tok_low T h]
  · rename_i h
    rw [tok_high T h]

/-- The pair's weights are all the tokens'. -/
theorem w8_apply (hB : Blocks m X R W1 W2) (hr : ∀ T e, IsReal (gate X R T e)) (c : Dev nD) (T : Fin 1024) (e : Fin 8) :
    w8 m ρ c (ix2 T e) = tokWeight X R T e := by
  pointwise [w8, k0_pay19]
  simp only [wpay_apply ρ hB hr]
  have h0 : coord (pairDev c 0) = 0 := coord_pair c 0
  have h1 : coord (pairDev c 1) = 1 := coord_pair c 1
  rw [h0, h1]
  split
  · rename_i h
    rw [tok_low T h]
  · rename_i h
    rw [tok_high T h]

/-- The part of an expert's output over one half of its hidden units. -/
def half (X : S1024x1024.Idx → EReal) (W1 : Cert.ReferenceIdeal.S8x1024x2048.Idx → EReal)
    (W2 : Cert.ReferenceIdeal.S8x2048x1024.Idx → EReal) (T d : Fin 1024) (e : Fin 8) (b : Fin 2) : EReal :=
  ∑ h : Fin 1024, hidden X W1 e T (unit b h) * W2 (ix3 e (unit b h) d)

/-- The expert's number as the kernel computes it. -/
theorem expert_word (s : Fin 2) (le : Fin 4) (e : Fin 8) :
    IntOp.cmpi CmpIPredicate.eq (BitVec.ofNat 32 e.val)
      (Scalar.addi (Scalar.muli (BitVec.ofNat 32 s.val) 4#32) (BitVec.ofNat 32 le.val))
      = if e = ex s le then 1#1 else 0#1 := by
  revert s le e
  decide

/-- A sum that keeps one place's value. -/
theorem sum_keep (f : Fin 8 → EReal) (a : Fin 8) :
    ∑ e : Fin 8, Scalar.select (if e = a then 1#1 else 0#1) (f e) 0 = f a := by
  have hs : ∀ e : Fin 8, Scalar.select (if e = a then 1#1 else 0#1) (f e) 0 = if e = a then f a else 0 := by
    intro e
    by_cases h : e = a
    · subst h
      rw [if_pos rfl, if_pos rfl]
      rfl
    · rw [if_neg h, if_neg h]
      rfl
  simp only [hs, Finset.sum_ite_eq', Finset.mem_univ, if_true]

/-- One chunk adds one half of one expert's output times the token's weight. -/
theorem acc_succ (hB : Blocks m X R W1 W2) (hr : ∀ T e, IsReal (gate X R T e)) (c : Dev nD) (le : Fin 4) (b : Fin 2)
    (T d : Fin 1024) :
    accC m ρ c (2 * le.val + b.val + 1) (ix2 T d) = accC m ρ c (2 * le.val + b.val) (ix2 T d)
      + half X W1 W2 T d (ex (coord c) le) b * tokWeight X R T (ex (coord c) le) := by
  have h2 : (2 * le.val + b.val) / 2 = le.val := by omega
  show k0_pay23 _ _ _ _ _ _ _ _ = _
  pointwise [k0_pay23, k0_pay21, k0_pay22, w1c, w2c, iota8]
  simp only [x2_apply ρ hB, w8_apply ρ hB hr, h2, v2w_eq, expert_word, sum_keep]
  have hm : (2 * le.val + b.val) % 2 = b.val := by omega
  have hl : (⟨le.val % 4, Nat.mod_lt _ (by decide)⟩ : Fin 4) = le := Fin.ext (Nat.mod_eq_of_lt le.isLt)
  have h1 : ∀ k h : Fin 1024, m ((c : Thread nD τ).loc main_arg2) (ValueIdx.ix3 (⟨le.val % 4, Nat.mod_lt _ (by decide)⟩ : Fin 4) k
      (⟨1024 * ((2 * le.val + b.val) % 2) + h.val, by omega⟩ : Fin 2048)) = W1 (ix3 (ex (coord c) le) k (unit b h)) := by
    intro k h
    rw [← hB.w1, ix3_eq_valueIdx, hl]
    simp only [hm]
    rfl
  have h3 : ∀ h d : Fin 1024, m ((c : Thread nD τ).loc main_arg3) (ValueIdx.ix3 (⟨le.val % 4, Nat.mod_lt _ (by decide)⟩ : Fin 4)
      (⟨1024 * ((2 * le.val + b.val) % 2) + h.val, by omega⟩ : Fin 2048) d) = W2 (ix3 (ex (coord c) le) (unit b h) d) := by
    intro h d
    rw [← hB.w2, ix3_eq_valueIdx, hl]
    simp only [hm]
    rfl
  simp only [h1, h3]
  rfl

/-- The two halves of an expert's output. -/
theorem expert_eq (X : S1024x1024.Idx → EReal) (W1 : Cert.ReferenceIdeal.S8x1024x2048.Idx → EReal)
    (W2 : Cert.ReferenceIdeal.S8x2048x1024.Idx → EReal) (T d : Fin 1024) (e : Fin 8) :
    expert X W1 W2 T d e = half X W1 W2 T d e 0 + half X W1 W2 T d e 1 := by
  unfold expert half
  rw [Fin.sum_univ_two_halves 1024 1024 rfl]
  congr 1

/-- A device's accumulator after all its chunks: its four experts' outputs times the token's weights. -/
theorem acc_final (hB : Blocks m X R W1 W2) (hr : ∀ T e, IsReal (gate X R T e)) (c : Dev nD) (T d : Fin 1024) :
    accC m ρ c 8 (ix2 T d) = ∑ le : Fin 4, expert X W1 W2 T d (ex (coord c) le) * tokWeight X R T (ex (coord c) le) := by
  have hd : ∀ e : Fin 8, expert X W1 W2 T d e * tokWeight X R T e
      = half X W1 W2 T d e 0 * tokWeight X R T e + half X W1 W2 T d e 1 * tokWeight X R T e := by
    intro e
    obtain ⟨r, hr0, hr1⟩ := weight_real (hr T) (sortedFrom (gtBit (gate X R T)) 0) (sortedFrom (gtBit (gate X R T)) 1) e
    rw [expert_eq]
    unfold tokWeight
    rw [hr1]
    exact EReal.right_distrib_of_nonneg_of_ne_top (by exact_mod_cast hr0) (EReal.coe_ne_top r) _ _
  have h0 : accC m ρ c 0 (ix2 T d) = 0 := by
    show k0_pay20 (F := Ideal) (ix2 T d) = 0
    pointwise [k0_pay20]
  have hs := fun le b => acc_succ ρ hB hr c le b T d
  rw [Fin.sum_univ_four]
  simp only [hd]
  have e0 := hs 0 0; have e1 := hs 0 1; have e2 := hs 1 0; have e3 := hs 1 1
  have e4 := hs 2 0; have e5 := hs 2 1; have e6 := hs 3 0; have e7 := hs 3 1
  simp only [Fin.isValue, Fin.val_zero, Fin.val_one, Fin.val_two, Nat.reduceMul, Nat.reduceAdd, show ((3 : Fin 4) : ℕ) = 3 from rfl] at e0 e1 e2 e3 e4 e5 e6 e7
  rw [e7, e6, e5, e4, e3, e2, e1, e0, h0, zero_add]
  simp only [add_assoc]

/-- The result on device `c` is the layer's at the device's tokens. -/
theorem out_apply (hB : Blocks m X R W1 W2) (hr : ∀ T e, IsReal (gate X R T e)) (c : Dev nD) (t : Fin 512) (d : Fin 1024) :
    outAt m ρ c (ix2 t d) = layer X R W1 W2 (tokAt (coord c) t) d := by
  have hsum : layer X R W1 W2 (tokAt (coord c) t) d
      = accC m ρ c 8 (ix2 (tokAt (coord c) t) d) + accC m ρ (peer c) 8 (ix2 (tokAt (coord c) t) d) := by
    rw [acc_final ρ hB hr, acc_final ρ hB hr, coord_peer]
    unfold layer
    generalize tokAt (coord c) t = T
    have h8 : ∀ f : Fin 8 → EReal, ∑ e, f e = (∑ le : Fin 4, f (ex 0 le)) + ∑ le : Fin 4, f (ex 1 le) := by
      intro f
      rw [Fin.sum_univ_two_halves 4 4 rfl]
      congr 1
    rw [h8]
    have hs : coord c = 0 ∨ coord c = 1 := by omega
    rcases hs with h | h
    · rw [h]
      rfl
    · rw [h, add_comm]
      rfl
  rw [hsum]
  pointwise [outAt, k0_pay1, psend, k0_pay38, lowC, highC, k0_pay36, k0_pay37]
  rw [v2w_eq, v2w_eq, coord_peer]
  have hs : coord c = 0 ∨ coord c = 1 := by omega
  rcases hs with h | h
  · rw [h, show tokAt 0 t = ⟨t.val, by omega⟩ from Fin.ext (by simp [tokAt])]
    rfl
  · rw [h, show tokAt 1 t = ⟨512 + t.val, by omega⟩ from Fin.ext (by simp [tokAt])]
    rfl

end Cert.ExchangeProof
-- ==== Proof.Equation.lean ====
/-
# `Equation`: the kernel's result is the reference's

The claim's hypotheses say that each device's arguments are blocks of four whole arrays and that the tokens and
the router are finite. From them come `Blocks`, real gates, and so the equality of the two programs' results.
-/
module

public import Idealize.ShloMosaic.Lib.ReduceAll
public import proofs.«01_k».proof.Proof.DeviceValue
public import proofs.«01_k».proof.Proof.Frames
public import proofs.«01_k».proof.Proof.Gen.Pre_finite_gates_KernelIdeal

@[expose] public section

set_option maxRecDepth 16384

noncomputable section

namespace Cert.ExchangeProof

open Cert.KernelIdeal Cert.KernelIdeal.Gen
open Idealize.ShloMosaic Idealize.ShloMosaic.TcCoe Idealize.SL.Sem

theorem pos_inf : Ideal.ofBits FTy.f32 0x7F800000#32 = ⊤ := by simp [Ideal.ofBits, Ideal.ieee]

/-- An extended real whose absolute value is below infinity is real. -/
theorem real_of_abs_lt {x : EReal} (h : max x (-x) < ⊤) : IsReal x := by
  induction x using EReal.rec with
  | bot => simp at h
  | coe r => exact ⟨r, rfl⟩
  | top => simp at h

theorem real_of_cmp {x : EReal} (h : Ideal.cmp .olt (max x (-x)) (Ideal.ofBits FTy.f32 0x7F800000#32) = 1#1) : IsReal x := by
  refine real_of_abs_lt ?_
  rw [pos_inf] at h
  by_contra hc
  simp [Ideal.cmp, hc] at h

theorem real_mul {x y : EReal} (hx : IsReal x) (hy : IsReal y) : IsReal (x * y) := by
  obtain ⟨a, rfl⟩ := hx
  obtain ⟨b, rfl⟩ := hy
  exact ⟨a * b, (EReal.coe_mul a b).symm⟩

theorem real_sum {n : ℕ} (f : Fin n → EReal) (h : ∀ k, IsReal (f k)) : IsReal (∑ k, f k) := by
  choose r hr using h
  refine ⟨∑ k, r k, ?_⟩
  rw [Finset.sum_congr rfl fun k _ => hr k]
  exact (map_sum (⟨⟨Real.toEReal, rfl⟩, EReal.coe_add⟩ : ℝ →+ EReal) r Finset.univ).symm

/-- The precondition read at an entry: each device's tokens and router columns are real. -/
theorem real_args (x : FVec Ideal S512x1024 .f32) (r : FVec Ideal S1024x4 .f32) (w1 : FVec Ideal S4x1024x2048 .f32)
    (w2 : FVec Ideal S4x2048x1024 .f32)
    (h : Cert.Pre_finite_gates_KernelIdeal.fn (F := Ideal) x r w1 w2 = fun _ => 1#1) :
    (∀ i, IsReal (x i)) ∧ ∀ i, IsReal (r i) := by
  haveI : Subsingleton Cert.Pre_finite_gates_KernelIdeal.S_.Idx := ⟨fun a b => funext fun k => k.elim0⟩
  have h0 := congrFun h (fun k => k.elim0)
  obtain ⟨hx, hr⟩ := IntOp.andi_eq_one.1 h0
  exact ⟨fun i => real_of_cmp (Host.reduce_andi_all _ _ _ _ _ hx i),
    fun i => real_of_cmp (Host.reduce_andi_all _ _ _ _ _ hr i)⟩

theorem lin_coord (c : Dev nD) : Layout.meshLin [2, 2, 4] c.val [0] = (coord c).val := by revert c; decide
theorem lin_nil (c : Dev nD) : Layout.meshLin [2, 2, 4] c.val [] = 0 := by revert c; decide

/-- A row of a device's block of the tokens, or of the result, is a token of the batch. -/
theorem block_rows (v : S1024x1024.Idx → EReal) (c : Dev nD) (t : Fin 512) (k : Fin 1024) :
    (Layout.blockN ⟨2, ![512, 1024]⟩ ⟨2, ![1024, 1024]⟩ (Layout.meshBlock [2, 2, 4] ![[0], []] c) v) (ix2 t k)
      = v (ix2 (tokAt (coord c) t) k) := by
  rw [Layout.blockN_apply]
  refine congrArg v (funext fun a => Fin.ext ?_)
  match a with
  | ⟨0, _⟩ =>
    show Layout.meshLin [2, 2, 4] c.val [0] * 512 + t.val = 512 * (coord c).val + t.val
    rw [lin_coord]; omega
  | ⟨1, _⟩ =>
    show Layout.meshLin [2, 2, 4] c.val [] * 1024 + k.val = k.val
    rw [lin_nil]; omega

/-- A column of a device's block of the router is an expert of the layer. -/
theorem block_cols (v : Cert.ReferenceIdeal.S1024x8.Idx → EReal) (c : Dev nD) (k : Fin 1024) (e : Fin 4) :
    (Layout.blockN ⟨2, ![1024, 4]⟩ ⟨2, ![1024, 8]⟩ (Layout.meshBlock [2, 2, 4] ![[], [0]] c) v) (ix2 k e)
      = v (ix2 k (ex (coord c) e)) := by
  rw [Layout.blockN_apply]
  refine congrArg v (funext fun a => Fin.ext ?_)
  match a with
  | ⟨0, _⟩ =>
    show Layout.meshLin [2, 2, 4] c.val [] * 1024 + k.val = k.val
    rw [lin_nil]; omega
  | ⟨1, _⟩ =>
    show Layout.meshLin [2, 2, 4] c.val [0] * 4 + e.val = 4 * (coord c).val + e.val
    rw [lin_coord]; omega

/-- A matrix of a device's block of a stack of expert matrices, whatever their two sizes, is an expert's. -/
theorem block_stack {p q : ℕ} (v : (⟨3, ![8, p, q]⟩ : Shape).Idx → EReal) (c : Dev nD)
    (hT : Layout.TilesN ⟨3, ![4, p, q]⟩ ⟨3, ![8, p, q]⟩ fun b => Layout.cutSize [2, 2, 4] ((![[0], [], []] : Fin 3 → List ℕ) b))
    (e : Fin 4) (k : Fin p) (h : Fin q) :
    Layout.blockN ⟨3, ![4, p, q]⟩ ⟨3, ![8, p, q]⟩ (Layout.meshBlock [2, 2, 4] ![[0], [], []] c) v hT (ix3 e k h)
      = v (ix3 (ex (coord c) e) k h) := by
  rw [Layout.blockN_apply]
  refine congrArg v (funext fun a => Fin.ext ?_)
  match a with
  | ⟨0, _⟩ =>
    show Layout.meshLin [2, 2, 4] c.val [0] * 4 + e.val = 4 * (coord c).val + e.val
    rw [lin_coord]; omega
  | ⟨1, _⟩ =>
    show Layout.meshLin [2, 2, 4] c.val [] * p + k.val = k.val
    rw [lin_nil]; omega
  | ⟨2, _⟩ =>
    show Layout.meshLin [2, 2, 4] c.val [] * q + h.val = h.val
    rw [lin_nil]; omega

/-- Real device blocks make every gate of the whole batch real. -/
theorem real_gates {m : (ℓ : Loc nD τ sig) → Buf (Elt Ideal) ℓ} {X : S1024x1024.Idx → EReal}
    {R : Cert.ReferenceIdeal.S1024x8.Idx → EReal} {W1 : Cert.ReferenceIdeal.S8x1024x2048.Idx → EReal}
    {W2 : Cert.ReferenceIdeal.S8x2048x1024.Idx → EReal} (hB : Blocks m X R W1 W2)
    (hx : ∀ (c : Dev nD) (t : Fin 512) (k : Fin 1024), IsReal (m ((c : Thread nD τ).loc main_arg0) (ix2 t k)))
    (hr : ∀ (c : Dev nD) (k : Fin 1024) (e : Fin 4), IsReal (m ((c : Thread nD τ).loc main_arg1) (ix2 k e)))
    (T : Fin 1024) (e : Fin 8) : IsReal (gate X R T e) := by
  refine real_sum _ fun k => real_mul ?_ ?_
  · have h := hx (pairDev 0 (T.val / 512)) ⟨T.val % 512, Nat.mod_lt _ (by decide)⟩ k
    have hs : T.val / 512 < 2 := by omega
    have hT : tokAt (coord (pairDev 0 (T.val / 512))) ⟨T.val % 512, Nat.mod_lt _ (by decide)⟩ = T := by
      rw [coord_pair 0 ⟨T.val / 512, hs⟩]
      exact Fin.ext (by show 512 * (T.val / 512) + T.val % 512 = T.val; omega)
    rwa [hB.x, hT] at h
  · have h := hr (pairDev 0 (e.val / 4)) k ⟨e.val % 4, Nat.mod_lt _ (by decide)⟩
    have hs : e.val / 4 < 2 := by omega
    have hE : ex (coord (pairDev 0 (e.val / 4))) ⟨e.val % 4, Nat.mod_lt _ (by decide)⟩ = e := by
      rw [coord_pair 0 ⟨e.val / 4, hs⟩]
      exact Fin.ext (by show 4 * (e.val / 4) + e.val % 4 = e.val; omega)
    rwa [hB.r, hE] at h

/-- From finite tokens and router, and arguments that are the blocks of the reference's, both programs run, keep
their arguments, and the kernel's devices end holding the blocks of the reference's result. -/
theorem algebraic : Cert.algebraic_KernelIdeal_ReferenceIdeal_pre_finite_gates_KernelIdeal := by
  intro m g m' g' hpre hargs
  have hB : Blocks m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) :=
    ⟨fun c t k => (congrFun (hargs c).1 _).trans (block_rows _ c t k),
      fun c k e => (congrFun (hargs c).2.1 _).trans (block_cols _ c k e),
      fun c e k h => (congrFun (hargs c).2.2.1 _).trans (block_stack _ c _ e k h),
      fun c e h k => (congrFun (hargs c).2.2.2 _).trans (block_stack _ c _ e h k)⟩
  have hG := real_gates hB (fun c t k => (real_args _ _ _ _ (hpre c)).1 (ix2 t k))
    (fun c k e => (real_args _ _ _ _ (hpre c)).2 (ix2 k e))
  refine ⟨Cert.ReferenceIdeal.Value.res_main_v41 (F := Ideal) m' 0, ?_, ?_⟩
  · refine (θ_run defs _ _).mono (fun r h c => ⟨((h.1 c).1 2).trans ((final_out m g c).trans ?_), final_args m g c _ (h.1 c)⟩)
      (run_final m g)
    funext i
    obtain ⟨t, d, rfl⟩ : ∃ (t : Fin 512) (d : Fin 1024), i = ix2 t d :=
      ⟨i 0, i 1, funext fun a => match a with | ⟨0, _⟩ => rfl | ⟨1, _⟩ => rfl⟩
    refine (out_apply g hB hG c t d).trans ?_
    exact ((block_rows _ c t d).trans (ref_value m' 0 (tokAt (coord c) t) d fun e => hG _ e)).symm
  · exact (θ_run Cert.ReferenceIdeal.defs _ _).mono (fun r h => h 0) (Cert.ReferenceIdeal.Value.run (F := Ideal) m' g')

end Cert.ExchangeProof

end
-- ==== Proof.lean ====
module

public import proofs.«01_k».proof.Defs
public import proofs.«01_k».proof.Proof.Frames
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_gates_KernelIdeal
public import proofs.«01_k».proof.Proof.Gen.Pre_finite_gates_ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_gates_KernelIdeal.Gen.facts, Cert.Pre_finite_gates_ReferenceIdeal.Gen.facts,
  Cert.ExchangeProof.frame_kernel, Cert.ExchangeProof.frame_ideal, fun m g _ => Cert.ExchangeProof.frame_ideal m g trivial,
  Cert.ExchangeProof.frame_reference, fun m g _ => Cert.ExchangeProof.frame_reference m g trivial, trivial,
  Cert.ExchangeProof.algebraic⟩

end Cert.Proof

end
